-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "half_log_2pi" .f32 0x3F6B3F8E#32 (((1 / 2) * (Real.log (13176795 / 2097152)) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v50) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S16384x32 : Shape := ⟨2, ![16384, 32]⟩
abbrev S32x2 : Shape := ⟨2, ![32, 2]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S32x64 : Shape := ⟨2, ![32, 64]⟩
abbrev S32 : Shape := ⟨1, ![32]⟩
abbrev S_ : Shape := ⟨0, ![]⟩

class Facts : Prop where
  bcast_S_S16384x256 : S_.BroadcastsInDim S16384x256 (![] : Fin 0 → Fin S16384x256.rank)
  bcast_S_S256x512 : S_.BroadcastsInDim S256x512 (![] : Fin 0 → Fin S256x512.rank)
  bcast_S_S512 : S_.BroadcastsInDim S512 (![] : Fin 0 → Fin S512.rank)
  bcast_S_S512x2048 : S_.BroadcastsInDim S512x2048 (![] : Fin 0 → Fin S512x2048.rank)
  bcast_S_S32x64 : S_.BroadcastsInDim S32x64 (![] : Fin 0 → Fin S32x64.rank)

variable [Facts]

def fn {F : FTy → Type} [FloatOps F] (main_arg0 : FVec F S16384x256 .f32) (main_arg1 : FVec F S16384x32 .f32) (main_arg2 : IVec S16384x32 32) (main_arg3 : FVec F S32x2 .f32) (main_arg4 : FVec F S256x512 .f32) (main_arg5 : FVec F S512 .f32) (main_arg6 : FVec F S512x2048 .f32) (main_arg7 : FVec F S2048 .f32) (main_arg8 : FVec F S32x64 .f32) (main_arg9 : FVec F S32 .f32) (main_arg10 : FVec F S32x64 .f32) (main_arg11 : FVec F S32 .f32) : IVec S16384x256 1 × IVec S256x512 1 × IVec S512 1 × IVec S512x2048 1 × IVec S32x64 1 × IVec S32x64 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S256x512 .f32 := Host.absf main_arg4
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  let main_v6 : FVec F S512 .f32 := Host.absf main_arg5
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x2048 .f32 := Host.absf main_arg6
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_v12 : FVec F S32x64 .f32 := Host.absf main_arg8
  let main_cst_3 : FVec F S_ .f32 := constant S_ .f32 0x7F800000#32
  let main_v13 : FVec F S32x64 .f32 := broadcastInDim S32x64 ![] bcast_S_S32x64 main_cst_3
  let main_v14 : IVec S32x64 1 := cmpf .olt main_v12 main_v13
  let main_v15 : FVec F S32x64 .f32 := Host.absf main_arg10
  let main_cst_4 : FVec F S_ .f32 := constant S_ .f32 0x7F800000#32
  let main_v16 : FVec F S32x64 .f32 := broadcastInDim S32x64 ![] bcast_S_S32x64 main_cst_4
  let main_v17 : IVec S32x64 1 := cmpf .olt main_v15 main_v16
  (main_v2, main_v5, main_v8, main_v11, main_v14, main_v17)
-- ==== Kernel.lean ====
abbrev S16384x256 : Shape := ⟨2, ![16384, 256]⟩
abbrev S16384x32 : Shape := ⟨2, ![16384, 32]⟩
abbrev S32x2 : Shape := ⟨2, ![32, 2]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S32x64 : Shape := ⟨2, ![32, 64]⟩
abbrev S32 : Shape := ⟨1, ![32]⟩
abbrev S32x32 : Shape := ⟨2, ![32, 32]⟩
abbrev S_ : Shape := ⟨0, ![]⟩
abbrev S32x64x1 : Shape := ⟨3, ![32, 64, 1]⟩
abbrev S32x1x32 : Shape := ⟨3, ![32, 1, 32]⟩
abbrev S32x64x32 : Shape := ⟨3, ![32, 64, 32]⟩
abbrev S2048x32 : Shape := ⟨2, ![2048, 32]⟩
abbrev S2048x32x1 : Shape := ⟨3, ![2048, 32, 1]⟩
abbrev S2048x32x2 : Shape := ⟨3, ![2048, 32, 2]⟩
abbrev S2048x64 : Shape := ⟨2, ![2048, 64]⟩
abbrev S2048x128 : Shape := ⟨2, ![2048, 128]⟩
abbrev S32x1 : Shape := ⟨2, ![32, 1]⟩
abbrev S64 : Shape := ⟨1, ![64]⟩
abbrev S128 : Shape := ⟨1, ![128]⟩
abbrev S1x128 : Shape := ⟨2, ![1, 128]⟩
abbrev S1x2048 : Shape := ⟨2, ![1, 2048]⟩
abbrev S512x128 : Shape := ⟨2, ![512, 128]⟩
abbrev S16384x64 : Shape := ⟨2, ![16384, 64]⟩
abbrev S16384x128 : Shape := ⟨2, ![16384, 128]⟩
abbrev S1x64 : Shape := ⟨2, ![1, 64]⟩
abbrev S1x512 : Shape := ⟨2, ![1, 512]⟩
abbrev S1x32 : Shape := ⟨2, ![1, 32]⟩
abbrev S4096x256 : Shape := ⟨2, ![4096, 256]⟩
abbrev S4096x128 : Shape := ⟨2, ![4096, 128]⟩
abbrev S4096x32 : Shape := ⟨2, ![4096, 32]⟩
abbrev S4096x64 : Shape := ⟨2, ![4096, 64]⟩
abbrev S4096x512 : Shape := ⟨2, ![4096, 512]⟩
abbrev S16384x32x2 : Shape := ⟨3, ![16384, 32, 2]⟩

abbrev nBuf : Space → Nat
  | .hbm => 70
  | .vmem => 26
  | .smem => 0
  | _ => 0

abbrev bufTy : (tb : Table) → Fin (tcTables nBuf tb) → BufTy
  | .hbm, ⟨0, _⟩ => ⟨S16384x256, .f32⟩
  | .hbm, ⟨1, _⟩ => ⟨S16384x32, .f32⟩
  | .hbm, ⟨2, _⟩ => ⟨S16384x32, .i32⟩
  | .hbm, ⟨3, _⟩ => ⟨S32x2, .f32⟩
  | .hbm, ⟨4, _⟩ => ⟨S256x512, .f32⟩
  | .hbm, ⟨5, _⟩ => ⟨S512, .f32⟩
  | .hbm, ⟨6, _⟩ => ⟨S512x2048, .f32⟩
  | .hbm, ⟨7, _⟩ => ⟨S2048, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S32, .f32⟩
  | .hbm, ⟨12, _⟩ => ⟨S32x32, .i32⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i32⟩
  | .hbm, ⟨17, _⟩ => ⟨S32x32, .i1⟩
  | .hbm, ⟨18, _⟩ => ⟨S32x32, .f32⟩
  | .hbm, ⟨19, _⟩ => ⟨S32x64x1, .f32⟩
  | .hbm, ⟨20, _⟩ => ⟨S32x1x32, .f32⟩
  | .hbm, ⟨21, _⟩ => ⟨S32x64x32, .f32⟩
  | .hbm, ⟨22, _⟩ => ⟨S32x64x32, .f32⟩
  | .hbm, ⟨23, _⟩ => ⟨S32x64x32, .f32⟩
  | .hbm, ⟨24, _⟩ => ⟨S2048x32, .f32⟩
  | .hbm, ⟨25, _⟩ => ⟨S32x64x1, .f32⟩
  | .hbm, ⟨26, _⟩ => ⟨S32x1x32, .f32⟩
  | .hbm, ⟨27, _⟩ => ⟨S32x64x32, .f32⟩
  | .hbm, ⟨28, _⟩ => ⟨S32x64x32, .f32⟩
  | .hbm, ⟨29, _⟩ => ⟨S32x64x32, .f32⟩
  | .hbm, ⟨30, _⟩ => ⟨S2048x32, .f32⟩
  | .hbm, ⟨31, _⟩ => ⟨S2048x32x1, .f32⟩
  | .hbm, ⟨32, _⟩ => ⟨S2048x32x1, .f32⟩
  | .hbm, ⟨33, _⟩ => ⟨S2048x32x2, .f32⟩
  | .hbm, ⟨34, _⟩ => ⟨S2048x64, .f32⟩
  | .hbm, ⟨35, _⟩ => ⟨S2048x128, .f32⟩
  | .hbm, ⟨36, _⟩ => ⟨S32x1, .f32⟩
  | .hbm, ⟨37, _⟩ => ⟨S32x1, .f32⟩
  | .hbm, ⟨38, _⟩ => ⟨S32x2, .f32⟩
  | .hbm, ⟨39, _⟩ => ⟨S64, .f32⟩
  | .hbm, ⟨40, _⟩ => ⟨S128, .f32⟩
  | .hbm, ⟨41, _⟩ => ⟨S1x128, .f32⟩
  | .hbm, ⟨42, _⟩ => ⟨S1x2048, .f32⟩
  | .hbm, ⟨43, _⟩ => ⟨S512x128, .f32⟩
  | .hbm, ⟨44, _⟩ => ⟨S1x128, .f32⟩
  | .hbm, ⟨45, _⟩ => ⟨S_, .i32⟩
  | .hbm, ⟨46, _⟩ => ⟨S16384x32, .i32⟩
  | .hbm, ⟨47, _⟩ => ⟨S16384x32, .i1⟩
  | .hbm, ⟨48, _⟩ => ⟨S16384x32, .f32⟩
  | .hbm, ⟨49, _⟩ => ⟨S_, .f32⟩
  | .hbm, ⟨50, _⟩ => ⟨S16384x64, .f32⟩
  | .hbm, ⟨51, _⟩ => ⟨S16384x128, .f32⟩
  | .hbm, ⟨52, _⟩ => ⟨S32x1, .f32⟩
  | .hbm, ⟨53, _⟩ => ⟨S32, .f32⟩
  | .hbm, ⟨54, _⟩ => ⟨S32x1, .f32⟩
  | .hbm, ⟨55, _⟩ => ⟨S32, .f32⟩
  | .hbm, ⟨56, _⟩ => ⟨S32x2, .f32⟩
  | .hbm, ⟨57, _⟩ => ⟨S64, .f32⟩
  | .hbm, ⟨58, _⟩ => ⟨S1x64, .f32⟩
  | .hbm, ⟨59, _⟩ => ⟨S32x2, .f32⟩
  | .hbm, ⟨60, _⟩ => ⟨S64, .f32⟩
  | .hbm, ⟨61, _⟩ => ⟨S1x64, .f32⟩
  | .hbm, ⟨62, _⟩ => ⟨S1x512, .f32⟩
  | .hbm, ⟨63, _⟩ => ⟨S1x32, .f32⟩
  | .hbm, ⟨64, _⟩ => ⟨S1x32, .f32⟩
  | .hbm, ⟨65, _⟩ => ⟨S16384x32, .f32⟩
  | .hbm, ⟨66, _⟩ => ⟨S16384x32, .f32⟩
  | .hbm, ⟨67, _⟩ => ⟨S16384x32, .f32⟩
  | .hbm, ⟨68, _⟩ => ⟨S16384x64, .f32⟩
  | .hbm, ⟨69, _⟩ => ⟨S16384x32x2, .f32⟩
  | .local _ .vmem, ⟨0, _⟩ => ⟨S512x2048, .f32⟩
  | .local _ .vmem, ⟨1, _⟩ => ⟨S2048x128, .f32⟩
  | .local _ .vmem, ⟨2, _⟩ => ⟨S1x2048, .f32⟩
  | .local _ .vmem, ⟨3, _⟩ => ⟨S1x128, .f32⟩
  | .local _ .vmem, ⟨4, _⟩ => ⟨S512x128, .f32⟩
  | .local _ .vmem, ⟨5, _⟩ => ⟨S1x128, .f32⟩
  | .local _ .vmem, ⟨6, _⟩ => ⟨S4096x256, .f32⟩
  | .local _ .vmem, ⟨7, _⟩ => ⟨S4096x256, .f32⟩
  | .local _ .vmem, ⟨8, _⟩ => ⟨S4096x128, .f32⟩
  | .local _ .vmem, ⟨9, _⟩ => ⟨S4096x128, .f32⟩
  | .local _ .vmem, ⟨10, _⟩ => ⟨S256x512, .f32⟩
  | .local _ .vmem, ⟨11, _⟩ => ⟨S1x512, .f32⟩
  | .local _ .vmem, ⟨12, _⟩ => ⟨S512x128, .f32⟩
  | .local _ .vmem, ⟨13, _⟩ => ⟨S1x128, .f32⟩
  | .local _ .vmem, ⟨14, _⟩ => ⟨S1x32, .f32⟩
  | .local _ .vmem, ⟨15, _⟩ => ⟨S1x32, .f32⟩
  | .local _ .vmem, ⟨16, _⟩ => ⟨S1x64, .f32⟩
  | .local _ .vmem, ⟨17, _⟩ => ⟨S1x64, .f32⟩
  | .local _ .vmem, ⟨18, _⟩ => ⟨S4096x32, .f32⟩
  | .local _ .vmem, ⟨19, _⟩ => ⟨S4096x32, .f32⟩
  | .local _ .vmem, ⟨20, _⟩ => ⟨S4096x32, .f32⟩
  | .local _ .vmem, ⟨21, _⟩ => ⟨S4096x32, .f32⟩
  | .local _ .vmem, ⟨22, _⟩ => ⟨S4096x32, .f32⟩
  | .local _ .vmem, ⟨23, _⟩ => ⟨S4096x32, .f32⟩
  | .local _ .vmem, ⟨24, _⟩ => ⟨S4096x64, .f32⟩
  | .local _ .vmem, ⟨25, _⟩ => ⟨S4096x64, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_c_0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev main_v49_2 : Ref sig .tc := ⟨.hbm, 67, rfl⟩
abbrev main_v49_3 : Ref sig .tc := ⟨.hbm, 68, rfl⟩
abbrev main_v50 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc1_stg13_0 : Ref sig .tc := ⟨.vmem, 24, rfl⟩
abbrev cc1_stg13_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc1_sem11_0 : DmaSem sig := 20
abbrev cc1_sem11_1 : DmaSem sig := 21
abbrev cc1_sem12_0 : DmaSem sig := 22
abbrev cc1_sem12_1 : DmaSem sig := 23
abbrev cc1_sem13_0 : DmaSem sig := 24
abbrev cc1_sem13_1 : DmaSem sig := 25

abbrev nD : Nat := 1
abbrev τ : Topo := Topo.v7x

variable {F : FTy → Type} [FloatOps F]

abbrev grid0 : Pipeline.Grid := .none

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4096x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4096x32 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4096x32 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4096x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== KernelIdeal.lean ====
variable {F : FTy → Type} [FloatOps F] [Named F]
def κ : String → Option EReal := fun
  | "half_log_2pi" => some (((1 / 2) * (Real.log (13176795 / 2097152)) : ℝ) : EReal)
  | _ => none
-- ==== ReferenceIdeal.lean ====
abbrev S16384x256 : Shape := ⟨2, ![16384, 256]⟩
abbrev S16384x32 : Shape := ⟨2, ![16384, 32]⟩
abbrev S32x2 : Shape := ⟨2, ![32, 2]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S32x64 : Shape := ⟨2, ![32, 64]⟩
abbrev S32 : Shape := ⟨1, ![32]⟩
abbrev S16384x512 : Shape := ⟨2, ![16384, 512]⟩
abbrev S1x512 : Shape := ⟨2, ![1, 512]⟩
abbrev S_ : Shape := ⟨0, ![]⟩
abbrev S16384x2048 : Shape := ⟨2, ![16384, 2048]⟩
abbrev S1x2048 : Shape := ⟨2, ![1, 2048]⟩
abbrev S16384x32x64 : Shape := ⟨3, ![16384, 32, 64]⟩
abbrev S32x16384 : Shape := ⟨2, ![32, 16384]⟩
abbrev S1x32 : Shape := ⟨2, ![1, 32]⟩
abbrev S32x1 : Shape := ⟨2, ![32, 1]⟩
abbrev S16384x32x1 : Shape := ⟨3, ![16384, 32, 1]⟩
abbrev S16384x32x2 : Shape := ⟨3, ![16384, 32, 2]⟩

abbrev nBuf : Space → Nat
  | .hbm => 110
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x32, .f32⟩
  | .hbm, ⟨2, _⟩ => ⟨S16384x32, .i32⟩
  | .hbm, ⟨3, _⟩ => ⟨S32x2, .f32⟩
  | .hbm, ⟨4, _⟩ => ⟨S256x512, .f32⟩
  | .hbm, ⟨5, _⟩ => ⟨S512, .f32⟩
  | .hbm, ⟨6, _⟩ => ⟨S512x2048, .f32⟩
  | .hbm, ⟨7, _⟩ => ⟨S2048, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S32, .f32⟩
  | .hbm, ⟨12, _⟩ => ⟨S16384x512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x32x64, .f32⟩
  | .hbm, ⟨24, _⟩ => ⟨S32x16384, .f32⟩
  | .hbm, ⟨25, _⟩ => ⟨S16384x32, .f32⟩
  | .hbm, ⟨26, _⟩ => ⟨S1x32, .f32⟩
  | .hbm, ⟨27, _⟩ => ⟨S16384x32, .f32⟩
  | .hbm, ⟨28, _⟩ => ⟨S16384x32, .f32⟩
  | .hbm, ⟨29, _⟩ => ⟨S32x16384, .f32⟩
  | .hbm, ⟨30, _⟩ => ⟨S16384x32, .f32⟩
  | .hbm, ⟨31, _⟩ => ⟨S1x32, .f32⟩
  | .hbm, ⟨32, _⟩ => ⟨S16384x32, .f32⟩
  | .hbm, ⟨33, _⟩ => ⟨S16384x32, .f32⟩
  | .hbm, ⟨34, _⟩ => ⟨S_, .i32⟩
  | .hbm, ⟨35, _⟩ => ⟨S16384x32, .i32⟩
  | .hbm, ⟨36, _⟩ => ⟨S16384x32, .i1⟩
  | .hbm, ⟨37, _⟩ => ⟨S16384x32, .f32⟩
  | .hbm, ⟨38, _⟩ => ⟨S16384x32, .f32⟩
  | .hbm, ⟨39, _⟩ => ⟨S_, .f32⟩
  | .hbm, ⟨40, _⟩ => ⟨S16384x32, .f32⟩
  | .hbm, ⟨41, _⟩ => ⟨S16384x32, .f32⟩
  | .hbm, ⟨42, _⟩ => ⟨S16384x32, .f32⟩
  | .hbm, ⟨43, _⟩ => ⟨S16384x32, .f32⟩
  | .hbm, ⟨44, _⟩ => ⟨S16384x32, .i1⟩
  | .hbm, ⟨45, _⟩ => ⟨S16384x32, .f32⟩
  | .hbm, ⟨46, _⟩ => ⟨S16384x32, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16384x32, .f32⟩
  | .hbm, ⟨57, _⟩ => ⟨S16384x32, .f32⟩
  | .hbm, ⟨58, _⟩ => ⟨S_, .f32⟩
  | .hbm, ⟨59, _⟩ => ⟨S16384x32, .f32⟩
  | .hbm, ⟨60, _⟩ => ⟨S16384x32, .f32⟩
  | .hbm, ⟨61, _⟩ => ⟨S32x1, .f32⟩
  | .hbm, ⟨62, _⟩ => ⟨S32, .f32⟩
  | .hbm, ⟨63, _⟩ => ⟨S32x1, .f32⟩
  | .hbm, ⟨64, _⟩ => ⟨S32, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S32, .f32⟩
  | .hbm, ⟨74, _⟩ => ⟨S1x32, .f32⟩
  | .hbm, ⟨75, _⟩ => ⟨S16384x32, .f32⟩
  | .hbm, ⟨76, _⟩ => ⟨S16384x32, .f32⟩
  | .hbm, ⟨77, _⟩ => ⟨S1x32, .f32⟩
  | .hbm, ⟨78, _⟩ => ⟨S16384x32, .f32⟩
  | .hbm, ⟨79, _⟩ => ⟨S16384x32, .f32⟩
  | .hbm, ⟨80, _⟩ => ⟨S1x32, .f32⟩
  | .hbm, ⟨81, _⟩ => ⟨S16384x32, .f32⟩
  | .hbm, ⟨82, _⟩ => ⟨S16384x32, .f32⟩
  | .hbm, ⟨83, _⟩ => ⟨S16384x32, .f32⟩
  | .hbm, ⟨84, _⟩ => ⟨S16384x32, .f32⟩
  | .hbm, ⟨85, _⟩ => ⟨S_, .f32⟩
  | .hbm, ⟨86, _⟩ => ⟨S16384x32, .f32⟩
  | .hbm, ⟨87, _⟩ => ⟨S16384x32, .f32⟩
  | .hbm, ⟨88, _⟩ => ⟨S16384x32, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S16384x32, .f32⟩
  | .hbm, ⟨95, _⟩ => ⟨S16384x32, .f32⟩
  | .hbm, ⟨96, _⟩ => ⟨S16384x32, .f32⟩
  | .hbm, ⟨97, _⟩ => ⟨S_, .f32⟩
  | .hbm, ⟨98, _⟩ => ⟨S16384x32, .f32⟩
  | .hbm, ⟨99, _⟩ => ⟨S16384x32, .f32⟩
  | .hbm, ⟨100, _⟩ => ⟨S16384x32, .f32⟩
  | .hbm, ⟨101, _⟩ => ⟨S16384x32, .f32⟩
  | .hbm, ⟨102, _⟩ => ⟨S16384x32, .f32⟩
  | .hbm, ⟨103, _⟩ => ⟨S_, .f32⟩
  | .hbm, ⟨104, _⟩ => ⟨S16384x32, .f32⟩
  | .hbm, ⟨105, _⟩ => ⟨S16384x32, .f32⟩
  | .hbm, ⟨106, _⟩ => ⟨S16384x32, .f32⟩
  | .hbm, ⟨107, _⟩ => ⟨S16384x32x1, .f32⟩
  | .hbm, ⟨108, _⟩ => ⟨S16384x32x1, .f32⟩
  | .hbm, ⟨109, _⟩ => ⟨S16384x32x2, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call3_cst : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_v24 : Ref sig .tc := ⟨.hbm, 52, rfl⟩
abbrev main_cst : Ref sig .tc := ⟨.hbm, 53, rfl⟩
abbrev main_cst_0 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_1 : Ref sig .tc := ⟨.hbm, 65, rfl⟩
abbrev main_cst_2 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_3 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_4 : Ref sig .tc := ⟨.hbm, 89, rfl⟩
abbrev main_v46 : Ref sig .tc := ⟨.hbm, 90, rfl⟩
abbrev main_cst_5 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_6 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_7 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩

abbrev nD : Nat := 1
abbrev τ : Topo := Topo.v7x

variable {F : FTy → Type} [FloatOps F]
-- ==== Proof.RefRun.lean ====
/- The reference program as ten short lists of host operations, one list per stage of the computation, and the run of
   their concatenation: every execution ends, with each buffer holding what the ten stages leave in it. -/
module

public import proofs.«01_k».proof.Proof.Gen.ReferenceIdeal
public import Idealize.ShloMosaic.Lib.StableHlo.RunRead
public import Idealize.ShloMosaic.Lib.StableHlo.RunHlo
public import Idealize.ShloMosaic.Lib.Quiescent
public import Idealize.ShloMosaic.PureOps.Ideal

@[expose] public section

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The pairs (mean, variance) along a new last axis. -/
def pairUp : (⟨S16384x32x1, .f32⟩ : BufTy).Contents (Elt F) → (⟨S16384x32x1, .f32⟩ : BufTy).Contents (Elt F) → (⟨S16384x32x2, .f32⟩ : BufTy).Contents (Elt F) :=
  fun a b => concatenate S16384x32x2 2 [⟨S16384x32x1, a⟩, ⟨S16384x32x1, b⟩] concatenates_S16384x32x1_S16384x32x1_S16384x32x2_d2

/-- A list of the reference's operations. -/
abbrev Ops (F : FTy → Type) : Type := List (HloOp τ sig (Elt F))

/-- Stage: the hidden layer, `relu (z @ Wh + bh)`. -/
abbrev hidOps : Ops F :=
  [ binary main_arg0 main_arg4 main_v0 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg5 main_v1 (broadcastInDim S1x512 ![1] bcast_S512_S1x512_1 : (⟨S512, .f32⟩ : BufTy).Contents (Elt F) → (⟨S1x512, .f32⟩ : BufTy).Contents (Elt F)),
    unary main_v1 main_v2 (broadcastInDim S16384x512 ![0, 1] bcast_S1x512_S16384x512_0_1 : (⟨S1x512, .f32⟩ : BufTy).Contents (Elt F) → (⟨S16384x512, .f32⟩ : BufTy).Contents (Elt F)),
    binary main_v0 main_v2 main_v3 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v3) (TRef.of (T := ⟨S16384x512, .f32⟩) main_call0_v0) (TRef.of (T := ⟨S16384x512, .f32⟩) main_v4) maximumf ]

/-- Stage: the gamma layer, cut into one chunk of 64 per variable. -/
abbrev gamOps : Ops F :=
  [ binary main_v4 main_arg6 main_v5 ((fun l r => Host.dotGeneral dot_S16384x512_S512x2048_S16384x2048_1_0_0_1_n_n none l r) : (⟨S16384x512, .f32⟩ : BufTy).Contents (Elt F) → (⟨S512x2048, .f32⟩ : BufTy).Contents (Elt F) → (⟨S16384x2048, .f32⟩ : BufTy).Contents (Elt F)),
    unary main_arg7 main_v6 (broadcastInDim S1x2048 ![1] bcast_S2048_S1x2048_1 : (⟨S2048, .f32⟩ : BufTy).Contents (Elt F) → (⟨S1x2048, .f32⟩ : BufTy).Contents (Elt F)),
    unary main_v6 main_v7 (broadcastInDim S16384x2048 ![0, 1] bcast_S1x2048_S16384x2048_0_1 : (⟨S1x2048, .f32⟩ : BufTy).Contents (Elt F) → (⟨S16384x2048, .f32⟩ : BufTy).Contents (Elt F)),
    binary main_v5 main_v7 main_v8 (addf : (⟨S16384x2048, .f32⟩ : BufTy).Contents (Elt F) → (⟨S16384x2048, .f32⟩ : BufTy).Contents (Elt F) → (⟨S16384x2048, .f32⟩ : BufTy).Contents (Elt F)),
    reshape main_v8 main_v9 (rfl : (.f32 : EltTy) = .f32) shapeCasts_S16384x2048_S16384x32x64 ]

/-- Stage: the two observation heads, mean and raw variance. -/
abbrev headOps : Ops F :=
  [ binary main_arg8 main_v9 main_v10 ((fun l r => Host.dotGeneral dot_S32x64_S16384x32x64_S32x16384_1_2_n_0_0_1 none l r) : (⟨S32x64, .f32⟩ : BufTy).Contents (Elt F) → (⟨S16384x32x64, .f32⟩ : BufTy).Contents (Elt F) → (⟨S32x16384, .f32⟩ : BufTy).Contents (Elt F)),
    unary main_v10 main_v11 ((transpose S16384x32 [1, 0] · transposes_S32x16384_S16384x32_1_0) : (⟨S32x16384, .f32⟩ : BufTy).Contents (Elt F) → (⟨S16384x32, .f32⟩ : BufTy).Contents (Elt F)),
    unary main_arg9 main_v12 (broadcastInDim S1x32 ![1] bcast_S32_S1x32_1 : (⟨S32, .f32⟩ : BufTy).Contents (Elt F) → (⟨S1x32, .f32⟩ : BufTy).Contents (Elt F)),
    unary main_v12 main_v13 (broadcastInDim S16384x32 ![0, 1] bcast_S1x32_S16384x32_0_1 : (⟨S1x32, .f32⟩ : BufTy).Contents (Elt F) → (⟨S16384x32, .f32⟩ : BufTy).Contents (Elt F)),
    binary main_v11 main_v13 main_v14 (addf : (⟨S16384x32, .f32⟩ : BufTy).Contents (Elt F) → (⟨S16384x32, .f32⟩ : BufTy).Contents (Elt F) → (⟨S16384x32, .f32⟩ : BufTy).Contents (Elt F)),
    binary main_arg10 main_v9 main_v15 ((fun l r => Host.dotGeneral dot_S32x64_S16384x32x64_S32x16384_1_2_n_0_0_1 none l r) : (⟨S32x64, .f32⟩ : BufTy).Contents (Elt F) → (⟨S16384x32x64, .f32⟩ : BufTy).Contents (Elt F) → (⟨S32x16384, .f32⟩ : BufTy).Contents (Elt F)),
    unary main_v15 main_v16 ((transpose S16384x32 [1, 0] · transposes_S32x16384_S16384x32_1_0) : (⟨S32x16384, .f32⟩ : BufTy).Contents (Elt F) → (⟨S16384x32, .f32⟩ : BufTy).Contents (Elt F)),
    unary main_arg11 main_v17 (broadcastInDim S1x32 ![1] bcast_S32_S1x32_1 : (⟨S32, .f32⟩ : BufTy).Contents (Elt F) → (⟨S1x32, .f32⟩ : BufTy).Contents (Elt F)),
    unary main_v17 main_v18 (broadcastInDim S16384x32 ![0, 1] bcast_S1x32_S16384x32_0_1 : (⟨S1x32, .f32⟩ : BufTy).Contents (Elt F) → (⟨S16384x32, .f32⟩ : BufTy).Contents (Elt F)),
    binary main_v16 main_v18 main_v19 (addf : (⟨S16384x32, .f32⟩ : BufTy).Contents (Elt F) → (⟨S16384x32, .f32⟩ : BufTy).Contents (Elt F) → (⟨S16384x32, .f32⟩ : BufTy).Contents (Elt F)) ]

/-- Stage: the mask and the two stitches of the masked and unmasked rows. -/
abbrev maskOps : Ops F :=
  [ nullary main_c (constantI S_ 32 1#32),
    unary main_c main_v20 (broadcastInDim S16384x32 ![] bcast_S_S16384x32 : (⟨S_, .i32⟩ : BufTy).Contents (Elt F) → (⟨S16384x32, .i32⟩ : BufTy).Contents (Elt F)),
    binary main_arg2 main_v20 main_v21 (cmpi .eq : (⟨S16384x32, .i32⟩ : BufTy).Contents (Elt F) → (⟨S16384x32, .i32⟩ : BufTy).Contents (Elt F) → (⟨S16384x32, .i1⟩ : BufTy).Contents (Elt F)),
    TRef.ternary (TRef.of (T := ⟨S16384x32, .i1⟩) main_v21) (TRef.of (T := ⟨S16384x32, .f32⟩) main_v14) (TRef.of (T := ⟨S16384x32, .f32⟩) main_v14) (TRef.of (T := ⟨S16384x32, .f32⟩) main_v22) select,
    TRef.ternary (TRef.of (T := ⟨S16384x32, .i1⟩) main_v21) (TRef.of (T := ⟨S16384x32, .f32⟩) main_v19) (TRef.of (T := ⟨S16384x32, .f32⟩) main_v19) (TRef.of (T := ⟨S16384x32, .f32⟩) main_v23) select ]

/-- Stage: the softplus of the raw variance. -/
abbrev spOps : Ops F :=
  [ TRef.nullary (TRef.of (T := ⟨S_, .f32⟩) main_call3_cst) (constant S_ .f32 0x00000000#32),
    TRef.unary (TRef.of (T := ⟨S_, .f32⟩) main_call3_cst) (TRef.of (T := ⟨S16384x32, .f32⟩) main_call3_v0) (broadcastInDim S16384x32 ![] bcast_S_S16384x32),
    TRef.binary (TRef.of (T := ⟨S16384x32, .f32⟩) main_v23) (TRef.of (T := ⟨S16384x32, .f32⟩) main_call3_v0) (TRef.of (T := ⟨S16384x32, .f32⟩) main_call3_v1) maximumf,
    TRef.unary (TRef.of (T := ⟨S_, .f32⟩) main_call3_cst) (TRef.of (T := ⟨S16384x32, .f32⟩) main_call3_v2) (broadcastInDim S16384x32 ![] bcast_S_S16384x32),
    TRef.binary (TRef.of (T := ⟨S16384x32, .f32⟩) main_v23) (TRef.of (T := ⟨S16384x32, .f32⟩) main_call3_v2) (TRef.of (T := ⟨S16384x32, .f32⟩) main_call3_v3) subf,
    TRef.binary (TRef.of (T := ⟨S16384x32, .f32⟩) main_call3_v3) (TRef.of (T := ⟨S16384x32, .f32⟩) main_call3_v3) (TRef.of (T := ⟨S16384x32, .i1⟩) main_call3_v4) (cmpf .une),
    TRef.unary (TRef.of (T := ⟨S_, .f32⟩) main_call3_cst) (TRef.of (T := ⟨S16384x32, .f32⟩) main_call3_v5) (broadcastInDim S16384x32 ![] bcast_S_S16384x32),
    TRef.binary (TRef.of (T := ⟨S16384x32, .f32⟩) main_v23) (TRef.of (T := ⟨S16384x32, .f32⟩) main_call3_v5) (TRef.of (T := ⟨S16384x32, .f32⟩) main_call3_v6) addf,
    TRef.unary (TRef.of (T := ⟨S16384x32, .f32⟩) main_call3_v3) (TRef.of (T := ⟨S16384x32, .f32⟩) main_call3_v7) Host.absf,
    TRef.unary (TRef.of (T := ⟨S16384x32, .f32⟩) main_call3_v7) (TRef.of (T := ⟨S16384x32, .f32⟩) main_call3_v8) Host.negf,
    TRef.unary (TRef.of (T := ⟨S16384x32, .f32⟩) main_call3_v8) (TRef.of (T := ⟨S16384x32, .f32⟩) main_call3_v9) Host.exp,
    TRef.unary (TRef.of (T := ⟨S16384x32, .f32⟩) main_call3_v9) (TRef.of (T := ⟨S16384x32, .f32⟩) main_call3_v10) Host.log1p,
    TRef.binary (TRef.of (T := ⟨S16384x32, .f32⟩) main_call3_v1) (TRef.of (T := ⟨S16384x32, .f32⟩) main_call3_v10) (TRef.of (T := ⟨S16384x32, .f32⟩) main_call3_v11) addf,
    TRef.ternary (TRef.of (T := ⟨S16384x32, .i1⟩) main_call3_v4) (TRef.of (T := ⟨S16384x32, .f32⟩) main_call3_v6) (TRef.of (T := ⟨S16384x32, .f32⟩) main_call3_v11) (TRef.of (T := ⟨S16384x32, .f32⟩) main_v24) select ]

/-- Stage: the clip of the softplus. -/
abbrev clipOps : Ops F :=
  [ nullary main_cst (constant S_ .f32 0x358637BD#32),
    nullary main_cst_0 (constant S_ .f32 0x60AD78EC#32),
    TRef.unary (TRef.of (T := ⟨S_, .f32⟩) main_cst) (TRef.of (T := ⟨S_, .f32⟩) main_call4_v0) id,
    TRef.unary (TRef.of (T := ⟨S_, .f32⟩) main_call4_v0) (TRef.of (T := ⟨S16384x32, .f32⟩) main_call4_v1) (broadcastInDim S16384x32 ![] bcast_S_S16384x32),
    TRef.binary (TRef.of (T := ⟨S16384x32, .f32⟩) main_call4_v1) (TRef.of (T := ⟨S16384x32, .f32⟩) main_v24) (TRef.of (T := ⟨S16384x32, .f32⟩) main_call4_v2) maximumf,
    TRef.unary (TRef.of (T := ⟨S_, .f32⟩) main_cst_0) (TRef.of (T := ⟨S_, .f32⟩) main_call4_v3) id,
    TRef.unary (TRef.of (T := ⟨S_, .f32⟩) main_call4_v3) (TRef.of (T := ⟨S16384x32, .f32⟩) main_call4_v4) (broadcastInDim S16384x32 ![] bcast_S_S16384x32),
    TRef.binary (TRef.of (T := ⟨S16384x32, .f32⟩) main_call4_v4) (TRef.of (T := ⟨S16384x32, .f32⟩) main_call4_v2) (TRef.of (T := ⟨S16384x32, .f32⟩) main_v25) minimumf ]

/-- Stage: the data's mean and its clipped variance. -/
abbrev normOps : Ops F :=
  [ unary main_arg3 main_v26 ((extractStridedSlice S32x1 ![0, 0] · slices_S32x2_S32x1_0_0) : (⟨S32x2, .f32⟩ : BufTy).Contents (Elt F) → (⟨S32x1, .f32⟩ : BufTy).Contents (Elt F)),
    reshape main_v26 main_v27 (rfl : (.f32 : EltTy) = .f32) shapeCasts_S32x1_S32,
    unary main_arg3 main_v28 ((extractStridedSlice S32x1 ![0, 1] · slices_S32x2_S32x1_0_1) : (⟨S32x2, .f32⟩ : BufTy).Contents (Elt F) → (⟨S32x1, .f32⟩ : BufTy).Contents (Elt F)),
    reshape main_v28 main_v29 (rfl : (.f32 : EltTy) = .f32) shapeCasts_S32x1_S32,
    nullary main_cst_1 (constant S_ .f32 0x358637BD#32),
    nullary main_cst_2 (constant S_ .f32 0x60AD78EC#32),
    TRef.unary (TRef.of (T := ⟨S_, .f32⟩) main_cst_1) (TRef.of (T := ⟨S_, .f32⟩) main_call5_v0) id,
    TRef.unary (TRef.of (T := ⟨S_, .f32⟩) main_call5_v0) (TRef.of (T := ⟨S32, .f32⟩) main_call5_v1) (broadcastInDim S32 ![] bcast_S_S32),
    TRef.binary (TRef.of (T := ⟨S32, .f32⟩) main_call5_v1) (TRef.of (T := ⟨S32, .f32⟩) main_v29) (TRef.of (T := ⟨S32, .f32⟩) main_call5_v2) maximumf,
    TRef.unary (TRef.of (T := ⟨S_, .f32⟩) main_cst_2) (TRef.of (T := ⟨S_, .f32⟩) main_call5_v3) id,
    TRef.unary (TRef.of (T := ⟨S_, .f32⟩) main_call5_v3) (TRef.of (T := ⟨S32, .f32⟩) main_call5_v4) (broadcastInDim S32 ![] bcast_S_S32),
    TRef.binary (TRef.of (T := ⟨S32, .f32⟩) main_call5_v4) (TRef.of (T := ⟨S32, .f32⟩) main_call5_v2) (TRef.of (T := ⟨S32, .f32⟩) main_v30) minimumf ]

/-- Stage: the estimated mean and variance. -/
abbrev estOps : Ops F :=
  [ unary main_v30 main_v31 (Host.sqrt : (⟨S32, .f32⟩ : BufTy).Contents (Elt F) → (⟨S32, .f32⟩ : BufTy).Contents (Elt F)),
    unary main_v31 main_v32 (broadcastInDim S1x32 ![1] bcast_S32_S1x32_1 : (⟨S32, .f32⟩ : BufTy).Contents (Elt F) → (⟨S1x32, .f32⟩ : BufTy).Contents (Elt F)),
    unary main_v32 main_v33 (broadcastInDim S16384x32 ![0, 1] bcast_S1x32_S16384x32_0_1 : (⟨S1x32, .f32⟩ : BufTy).Contents (Elt F) → (⟨S16384x32, .f32⟩ : BufTy).Contents (Elt F)),
    binary main_v33 main_v22 main_v34 (mulf : (⟨S16384x32, .f32⟩ : BufTy).Contents (Elt F) → (⟨S16384x32, .f32⟩ : BufTy).Contents (Elt F) → (⟨S16384x32, .f32⟩ : BufTy).Contents (Elt F)),
    unary main_v27 main_v35 (broadcastInDim S1x32 ![1] bcast_S32_S1x32_1 : (⟨S32, .f32⟩ : BufTy).Contents (Elt F) → (⟨S1x32, .f32⟩ : BufTy).Contents (Elt F)),
    unary main_v35 main_v36 (broadcastInDim S16384x32 ![0, 1] bcast_S1x32_S16384x32_0_1 : (⟨S1x32, .f32⟩ : BufTy).Contents (Elt F) → (⟨S16384x32, .f32⟩ : BufTy).Contents (Elt F)),
    binary main_v34 main_v36 main_v37 (addf : (⟨S16384x32, .f32⟩ : BufTy).Contents (Elt F) → (⟨S16384x32, .f32⟩ : BufTy).Contents (Elt F) → (⟨S16384x32, .f32⟩ : BufTy).Contents (Elt F)),
    unary main_v30 main_v38 (broadcastInDim S1x32 ![1] bcast_S32_S1x32_1 : (⟨S32, .f32⟩ : BufTy).Contents (Elt F) → (⟨S1x32, .f32⟩ : BufTy).Contents (Elt F)),
    unary main_v38 main_v39 (broadcastInDim S16384x32 ![0, 1] bcast_S1x32_S16384x32_0_1 : (⟨S1x32, .f32⟩ : BufTy).Contents (Elt F) → (⟨S16384x32, .f32⟩ : BufTy).Contents (Elt F)),
    binary main_v39 main_v25 main_v40 (mulf : (⟨S16384x32, .f32⟩ : BufTy).Contents (Elt F) → (⟨S16384x32, .f32⟩ : BufTy).Contents (Elt F) → (⟨S16384x32, .f32⟩ : BufTy).Contents (Elt F)) ]

/-- Stage: the normal distribution's log density. -/
abbrev logOps : Ops F :=
  [ binary main_arg1 main_v37 main_v41 (subf : (⟨S16384x32, .f32⟩ : BufTy).Contents (Elt F) → (⟨S16384x32, .f32⟩ : BufTy).Contents (Elt F) → (⟨S16384x32, .f32⟩ : BufTy).Contents (Elt F)),
    binary main_v41 main_v41 main_v42 (mulf : (⟨S16384x32, .f32⟩ : BufTy).Contents (Elt F) → (⟨S16384x32, .f32⟩ : BufTy).Contents (Elt F) → (⟨S16384x32, .f32⟩ : BufTy).Contents (Elt F)),
    nullary main_cst_3 (constant S_ .f32 0xBF000000#32),
    unary main_cst_3 main_v43 (broadcastInDim S16384x32 ![] bcast_S_S16384x32 : (⟨S_, .f32⟩ : BufTy).Contents (Elt F) → (⟨S16384x32, .f32⟩ : BufTy).Contents (Elt F)),
    binary main_v43 main_v42 main_v44 (mulf : (⟨S16384x32, .f32⟩ : BufTy).Contents (Elt F) → (⟨S16384x32, .f32⟩ : BufTy).Contents (Elt F) → (⟨S16384x32, .f32⟩ : BufTy).Contents (Elt F)),
    binary main_v44 main_v40 main_v45 (Host.divf : (⟨S16384x32, .f32⟩ : BufTy).Contents (Elt F) → (⟨S16384x32, .f32⟩ : BufTy).Contents (Elt F) → (⟨S16384x32, .f32⟩ : BufTy).Contents (Elt F)),
    nullary main_cst_4 (constant S_ .f32 0x40C90FDB#32),
    unary main_cst_4 main_v46 (Host.log : (⟨S_, .f32⟩ : BufTy).Contents (Elt F) → (⟨S_, .f32⟩ : BufTy).Contents (Elt F)),
    nullary main_cst_5 (constant S_ .f32 0x3F000000#32),
    binary main_cst_5 main_v46 main_v47 (mulf : (⟨S_, .f32⟩ : BufTy).Contents (Elt F) → (⟨S_, .f32⟩ : BufTy).Contents (Elt F) → (⟨S_, .f32⟩ : BufTy).Contents (Elt F)),
    unary main_v47 main_v48 (id : (⟨S_, .f32⟩ : BufTy).Contents (Elt F) → (⟨S_, .f32⟩ : BufTy).Contents (Elt F)),
    unary main_v48 main_v49 (broadcastInDim S16384x32 ![] bcast_S_S16384x32 : (⟨S_, .f32⟩ : BufTy).Contents (Elt F) → (⟨S16384x32, .f32⟩ : BufTy).Contents (Elt F)),
    binary main_v45 main_v49 main_v50 (subf : (⟨S16384x32, .f32⟩ : BufTy).Contents (Elt F) → (⟨S16384x32, .f32⟩ : BufTy).Contents (Elt F) → (⟨S16384x32, .f32⟩ : BufTy).Contents (Elt F)),
    unary main_v40 main_v51 (Host.log : (⟨S16384x32, .f32⟩ : BufTy).Contents (Elt F) → (⟨S16384x32, .f32⟩ : BufTy).Contents (Elt F)),
    nullary main_cst_6 (constant S_ .f32 0x3F000000#32),
    unary main_cst_6 main_v52 (broadcastInDim S16384x32 ![] bcast_S_S16384x32 : (⟨S_, .f32⟩ : BufTy).Contents (Elt F) → (⟨S16384x32, .f32⟩ : BufTy).Contents (Elt F)),
    binary main_v52 main_v51 main_v53 (mulf : (⟨S16384x32, .f32⟩ : BufTy).Contents (Elt F) → (⟨S16384x32, .f32⟩ : BufTy).Contents (Elt F) → (⟨S16384x32, .f32⟩ : BufTy).Contents (Elt F)),
    binary main_v50 main_v53 main_v54 (subf : (⟨S16384x32, .f32⟩ : BufTy).Contents (Elt F) → (⟨S16384x32, .f32⟩ : BufTy).Contents (Elt F) → (⟨S16384x32, .f32⟩ : BufTy).Contents (Elt F)) ]

/-- Stage: the masked log densities, and the pairs of mean and variance. -/
abbrev outOps : Ops F :=
  [ unary main_v21 main_v55 (uitofp .f32 : (⟨S16384x32, .i1⟩ : BufTy).Contents (Elt F) → (⟨S16384x32, .f32⟩ : BufTy).Contents (Elt F)),
    binary main_v54 main_v55 main_v56 (mulf : (⟨S16384x32, .f32⟩ : BufTy).Contents (Elt F) → (⟨S16384x32, .f32⟩ : BufTy).Contents (Elt F) → (⟨S16384x32, .f32⟩ : BufTy).Contents (Elt F)),
    nullary main_cst_7 (constant S_ .f32 0x3F800000#32),
    unary main_cst_7 main_v57 (broadcastInDim S16384x32 ![] bcast_S_S16384x32 : (⟨S_, .f32⟩ : BufTy).Contents (Elt F) → (⟨S16384x32, .f32⟩ : BufTy).Contents (Elt F)),
    binary main_v57 main_v55 main_v58 (subf : (⟨S16384x32, .f32⟩ : BufTy).Contents (Elt F) → (⟨S16384x32, .f32⟩ : BufTy).Contents (Elt F) → (⟨S16384x32, .f32⟩ : BufTy).Contents (Elt F)),
    binary main_v54 main_v58 main_v59 (mulf : (⟨S16384x32, .f32⟩ : BufTy).Contents (Elt F) → (⟨S16384x32, .f32⟩ : BufTy).Contents (Elt F) → (⟨S16384x32, .f32⟩ : BufTy).Contents (Elt F)),
    unary main_v37 main_v60 (broadcastInDim S16384x32x1 ![0, 1] bcast_S16384x32_S16384x32x1_0_1 : (⟨S16384x32, .f32⟩ : BufTy).Contents (Elt F) → (⟨S16384x32x1, .f32⟩ : BufTy).Contents (Elt F)),
    unary main_v40 main_v61 (broadcastInDim S16384x32x1 ![0, 1] bcast_S16384x32_S16384x32x1_0_1 : (⟨S16384x32, .f32⟩ : BufTy).Contents (Elt F) → (⟨S16384x32x1, .f32⟩ : BufTy).Contents (Elt F)),
    binary main_v60 main_v61 main_v62 (pairUp (F := F)) ]

/-- The whole program, stage after stage. -/
abbrev ops : Ops F := hidOps ++ (gamOps ++ (headOps ++ (maskOps ++ (spOps ++ (clipOps ++ (normOps ++ (estOps ++ (logOps ++ (outOps)))))))))

set_option maxRecDepth 8192 in
set_option maxHeartbeats 4000000 in
/-- The printed program is that line of operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : Ops F).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., binary_bufs_sub .., unary_bufs_sub .., unary_bufs_sub .., unary_bufs_sub .., binary_bufs_sub .., binary_bufs_sub .., unary_bufs_sub .., unary_bufs_sub .., unary_bufs_sub .., binary_bufs_sub .., nullary_bufs_sub .., unary_bufs_sub .., binary_bufs_sub .., ternary_bufs_sub .., ternary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., nullary_bufs_sub .., binary_bufs_sub .., unary_bufs_sub .., unary_bufs_sub .., binary_bufs_sub .., unary_bufs_sub .., nullary_bufs_sub .., unary_bufs_sub .., binary_bufs_sub .., binary_bufs_sub .., unary_bufs_sub .., binary_bufs_sub .., nullary_bufs_sub .., unary_bufs_sub .., binary_bufs_sub .., binary_bufs_sub .., unary_bufs_sub .., unary_bufs_sub .., binary_bufs_sub ..⟩

/-- The contents of device `c`'s buffers at launch. -/
abbrev start (m : (ℓ : Loc nD τ sig) → Buf (Elt F) ℓ) (c : Dev nD) : Valuation τ sig (Elt F) := launchContents m c

/-- The contents after the stage `hidOps`. -/
def afterHid (m : (ℓ : Loc nD τ sig) → Buf (Elt F) ℓ) (c : Dev nD) : Valuation τ sig (Elt F) := after hidOps (start m c)

/-- The contents after the stage `gamOps`. -/
def afterGam (m : (ℓ : Loc nD τ sig) → Buf (Elt F) ℓ) (c : Dev nD) : Valuation τ sig (Elt F) := after gamOps (afterHid m c)

/-- The contents after the stage `headOps`. -/
def afterHead (m : (ℓ : Loc nD τ sig) → Buf (Elt F) ℓ) (c : Dev nD) : Valuation τ sig (Elt F) := after headOps (afterGam m c)

/-- The contents after the stage `maskOps`. -/
def afterMask (m : (ℓ : Loc nD τ sig) → Buf (Elt F) ℓ) (c : Dev nD) : Valuation τ sig (Elt F) := after maskOps (afterHead m c)

/-- The contents after the stage `spOps`. -/
def afterSp (m : (ℓ : Loc nD τ sig) → Buf (Elt F) ℓ) (c : Dev nD) : Valuation τ sig (Elt F) := after spOps (afterMask m c)

/-- The contents after the stage `clipOps`. -/
def afterClip (m : (ℓ : Loc nD τ sig) → Buf (Elt F) ℓ) (c : Dev nD) : Valuation τ sig (Elt F) := after clipOps (afterSp m c)

/-- The contents after the stage `normOps`. -/
def afterNorm (m : (ℓ : Loc nD τ sig) → Buf (Elt F) ℓ) (c : Dev nD) : Valuation τ sig (Elt F) := after normOps (afterClip m c)

/-- The contents after the stage `estOps`. -/
def afterEst (m : (ℓ : Loc nD τ sig) → Buf (Elt F) ℓ) (c : Dev nD) : Valuation τ sig (Elt F) := after estOps (afterNorm m c)

/-- The contents after the stage `logOps`. -/
def afterLog (m : (ℓ : Loc nD τ sig) → Buf (Elt F) ℓ) (c : Dev nD) : Valuation τ sig (Elt F) := after logOps (afterEst m c)

/-- The contents after the stage `outOps`. -/
def afterOut (m : (ℓ : Loc nD τ sig) → Buf (Elt F) ℓ) (c : Dev nD) : Valuation τ sig (Elt F) := after outOps (afterLog m c)

theorem after_app (l₁ l₂ : Ops F) (V : Valuation τ sig (Elt F)) : after (l₁ ++ l₂) V = after l₂ (after l₁ V) := by
  induction l₁ generalizing V with
  | nil => rfl
  | cons op l ih => exact ih _

/-- The whole line's contents are those after the last stage. -/
theorem after_ops (m : (ℓ : Loc nD τ sig) → Buf (Elt F) ℓ) (c : Dev nD) : after ops (launchContents m c) = afterOut m c := by
  simp only [ops, after_app]; rfl

/-- The run: every execution ends, every buffer at its contents after the last stage, every counter at zero. -/
theorem run_all (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = afterOut m d (Proc.devRef .tc b)) ∧ r.2.sem = fun _ => 0 :=
  θ_run_mono (run_seq scopedRefs_eq scopedSems_eq defs main (fun _ => ops) main_eq (fun _ => ops_sub) m ρ)
    fun r h => ⟨fun d b => (h d b).trans (congrFun (after_ops m d) _), sem_eq_zero_of_no_sems rfl r.2⟩

end Cert.RefSide

end
-- ==== Proof.KerRun.lean ====
/- The run of the whole kernel program, host code and both launches: every execution ends, every buffer that outlives
   the launches holds what the last boundary's contents say, and every counter is at zero. -/
module

public import proofs.«01_k».proof.Proof.Gen.KernelIdeal.Frame

@[expose] public section

set_option maxRecDepth 16384

noncomputable section

namespace Cert.KerSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution of the program ends; every unscoped buffer then holds its contents at the last boundary, and every
    counter is zero. -/
theorem run_all : θ_run defs (onTc (τ := τ) (main (F := F))) ⟨m, fun _ => 0, ρ⟩ (fun r =>
    (∀ (c : Dev nD) (b : Ref sig .tc), ¬ (Proc.devRef .tc b : DevRef τ sig).isScoped →
      r.2.mem ((c.tc : Thread nD τ).loc b) = W5 m ρ c (Proc.devRef .tc b)) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ (mem_uc b hb), funext fun g => hz g (.inr (no_unscoped g.2))⟩)

end Cert.KerSide

end
-- ==== Proof.Spec.lean ====
/- The mathematics of the problem, written plainly over the extended reals: the hidden layer, the gamma layer, the two
   observation heads of each variable, and the normal log density of the data under them. Nothing here mentions a
   program; both programs are read against these functions. -/
module

public import Idealize.ShloMosaic.PureOps.Ideal

@[expose] public section

noncomputable section

namespace Cert.Spec

open Idealize.ShloMosaic

/-- The argument arrays, each as a function of its coordinates. -/
structure Inputs where
  /-- The latent sample of a row. -/
  z : Fin 16384 → Fin 256 → EReal
  /-- The data of a row, one value per variable. -/
  x : Fin 16384 → Fin 32 → EReal
  /-- 1 where the variable is observed in the row. -/
  miss : Fin 16384 → Fin 32 → BitVec 32
  /-- The normalisation parameters of a variable: its mean and its variance. -/
  norm : Fin 32 → Fin 2 → EReal
  /-- The hidden layer's weights and bias. -/
  Wh : Fin 256 → Fin 512 → EReal
  bh : Fin 512 → EReal
  /-- The gamma layer's weights and bias. -/
  Wg : Fin 512 → Fin 2048 → EReal
  bg : Fin 2048 → EReal
  /-- The mean head's weights and bias. -/
  Wm : Fin 32 → Fin 64 → EReal
  bm : Fin 32 → EReal
  /-- The variance head's weights and bias. -/
  Wv : Fin 32 → Fin 64 → EReal
  bv : Fin 32 → EReal

/-! ## Scalar functions -/

/-- The clip to `[1e-6, 1e20]`, both bounds as their binary32 values. -/
def clip (x : EReal) : EReal := min (Ideal.ofBits .f32 0x60AD78EC#32) (max (Ideal.ofBits .f32 0x358637BD#32) x)

/-- The softplus, in the form that does not overflow: `max x 0 + log (1 + exp (-|x|))`. -/
def softplus (x : EReal) : EReal := max x 0 + Ideal.log1p (Ideal.exp (-(FloatOps.absf (F := Ideal) (φ := .f32) x)))

/-- Half the logarithm of 2π, 2π as its binary32 value. -/
def halfLog : EReal := (((1 / 2) * (Real.log (13176795 / 2097152)) : ℝ) : EReal)

/-- The log density of `x` under the normal distribution of mean `μ` and variance `var`. -/
def logNormal (x μ var : EReal) : EReal :=
  Ideal.div (Ideal.ofBits .f32 0xBF000000#32 * ((x - μ) * (x - μ))) var - halfLog - Ideal.ofBits .f32 0x3F000000#32 * Ideal.log var

/-- Position `d` of variable `v`'s chunk of the gamma layer. -/
def chunk (v : Fin 32) (d : Fin 64) : Fin 2048 := ⟨v.val * 64 + d.val, by omega⟩

/-! ## The layers -/

variable (I : Inputs)

/-- The hidden layer: `relu (z @ Wh + bh)`. -/
def hidden (b : Fin 16384) (j : Fin 512) : EReal := max ((∑ k : Fin 256, I.z b k * I.Wh k j) + I.bh j) 0

/-- The gamma layer: `h @ Wg + bg`. -/
def gamma (b : Fin 16384) (g : Fin 2048) : EReal := (∑ j : Fin 512, hidden I b j * I.Wg j g) + I.bg g

/-- One observation head of variable `v`: its chunk of the gamma layer against the head's weights, plus the bias. -/
def head (W : Fin 32 → Fin 64 → EReal) (β : Fin 32 → EReal) (b : Fin 16384) (v : Fin 32) : EReal :=
  (∑ d : Fin 64, W v d * gamma I b (chunk v d)) + β v

/-- The mean head. -/
def meanRaw (b : Fin 16384) (v : Fin 32) : EReal := head I I.Wm I.bm b v

/-- The variance head. -/
def varRaw (b : Fin 16384) (v : Fin 32) : EReal := head I I.Wv I.bv b v

/-! ## The results -/

/-- The variable's variance, clipped. -/
def dataVar (v : Fin 32) : EReal := clip (I.norm v 1)

/-- The estimated mean. -/
def estMean (b : Fin 16384) (v : Fin 32) : EReal := Ideal.sqrt (dataVar I v) * meanRaw I b v + I.norm v 0

/-- The estimated variance. -/
def estVar (b : Fin 16384) (v : Fin 32) : EReal := dataVar I v * clip (softplus (varRaw I b v))

/-- The log density of the data. -/
def logDensity (b : Fin 16384) (v : Fin 32) : EReal := logNormal (I.x b v) (estMean I b v) (estVar I b v)

/-- 1 where the variable is observed, 0 where it is missing. -/
def observed (b : Fin 16384) (v : Fin 32) : EReal := FloatOps.uitofp (F := Ideal) .f32 (IntOp.cmpi .eq (I.miss b v) 1#32)

/-- First result: the log density of the observed data. -/
def logPx (b : Fin 16384) (v : Fin 32) : EReal := logDensity I b v * observed I b v

/-- Second result: the log density of the missing data. -/
def logPxMissing (b : Fin 16384) (v : Fin 32) : EReal := logDensity I b v * (1 - observed I b v)

/-- Fourth result: the pair (estimated mean, estimated variance). The third result is the estimated mean. -/
def params (b : Fin 16384) (v : Fin 32) (e : Fin 2) : EReal := if e.val < 1 then estMean I b v else estVar I b v

end Cert.Spec

end
-- ==== Proof.Consts.lean ====
/- The constants of both programs as real numbers, and the read of a real array at an index. -/
module

public import proofs.«01_k».proof.Proof.Spec
public import Idealize.ShloMosaic.PureOps.Ideal.Laws
public import Idealize.ShloMosaic.Lib.IdealHost

@[expose] public section

noncomputable section

namespace Cert.Spec

open Idealize.ShloMosaic

/-- A real array's value at an index. -/
def rd (s : Shape) (f : FVec Ideal s .f32) (i : s.Idx) : EReal := f i

/-- The binary32 constant that stands for 2π. -/
theorem two_pi_bits : Ideal.ofBits .f32 0x40C90FDB#32 = ((13176795 / 2097152 : ℝ) : EReal) := by
  simp [Ideal.ofBits, Ideal.ieee, -EReal.coe_mul]; norm_num

/-- The binary32 constant one half. -/
theorem half_bits : Ideal.ofBits .f32 0x3F000000#32 = ((1 / 2 : ℝ) : EReal) := by
  simp [Ideal.ofBits, Ideal.ieee, -EReal.coe_mul]; norm_num

/-- The logarithm of the constant that stands for 2π. -/
theorem log_two_pi : Ideal.log (Ideal.ofBits .f32 0x40C90FDB#32) = ((Real.log (13176795 / 2097152) : ℝ) : EReal) := by
  rw [two_pi_bits]
  show (if (13176795 / 2097152 : ℝ) ≤ 0 then (⊥ : EReal) else _) = _
  rw [if_neg (by norm_num)]

/-- The reference's constant: half the logarithm of its 2π. -/
theorem halfLog_eq : Ideal.ofBits .f32 0x3F000000#32 * Ideal.log (Ideal.ofBits .f32 0x40C90FDB#32) = halfLog := by
  rw [log_two_pi, half_bits, ← EReal.coe_mul]; rfl

end Cert.Spec

end
-- ==== Proof.Fold.lean ====
/- The kernel's rearrangement of the problem, and why it changes nothing where the weights are finite. The kernel folds
   the gamma layer and both heads into one matrix of 128 columns: column `q` carries the mean or the variance head of one
   variable. `raw` is what it then computes; `raw_eq` says that this is the head of `Spec`. -/
module

public import proofs.«01_k».proof.Proof.Consts

@[expose] public section

noncomputable section

namespace Cert.Fold

open Idealize.ShloMosaic Cert.Spec

/-! ## The folded computation -/

/-- The variable that column `q` is about: columns 0–31 are the means, 32–63 the variances, and 64–127 mean and variance
    of each variable in turn. -/
def colVar (q : Fin 128) : Fin 32 :=
  if h : q.val < 32 then ⟨q.val, h⟩ else if h' : q.val - 32 < 32 then ⟨q.val - 32, h'⟩ else ⟨(q.val - 32 - 32) / 2, by omega⟩

/-- Whether column `q` is a mean. -/
def isMean (q : Fin 128) : Bool :=
  if q.val < 32 then true else if q.val - 32 < 32 then false else decide ((q.val - 32 - 32) % 2 < 1)

/-- The identity matrix's entry, as the kernel computes it from two counters. -/
def same (a v : ℕ) : EReal := FloatOps.uitofp (F := Ideal) .f32 (IntOp.cmpi .eq (IntOp.addi (BitVec.ofNat 32 a) 0#32) (BitVec.ofNat 32 v))

/-- A head's weights spread over the whole gamma layer: zero outside the variable's chunk. -/
def spread (W : Fin 32 → Fin 64 → EReal) (g : Fin 2048) (v : Fin 32) : EReal :=
  W ⟨g.val / 64, by omega⟩ ⟨g.val % 64, by omega⟩ * same (g.val / 64) v.val

variable (I : Inputs)

/-- The head's weights that column `q` uses. -/
def colW (q : Fin 128) : Fin 32 → Fin 64 → EReal := if isMean q then I.Wm else I.Wv

/-- The head's bias that column `q` uses. -/
def colB (q : Fin 128) : Fin 32 → EReal := if isMean q then I.bm else I.bv

/-- The matrix of all heads. -/
def whead (g : Fin 2048) (q : Fin 128) : EReal := spread (colW I q) g (colVar q)

/-- The gamma layer's weights times the matrix of all heads. -/
def w2 (j : Fin 512) (q : Fin 128) : EReal := ∑ g : Fin 2048, I.Wg j g * whead I g q

/-- The gamma layer's bias times the matrix of all heads, plus the heads' bias. -/
def bhead (q : Fin 128) : EReal := (∑ g : Fin 2048, I.bg g * whead I g q) + colB I q (colVar q)

/-- The folded heads at row `b`, column `q`. -/
def raw (b : Fin 16384) (q : Fin 128) : EReal := (∑ j : Fin 512, hidden I b j * w2 I j q) + bhead I q

/-! ## Sums of extended reals -/

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a real plus anything. -/
theorem real_mul_add (w x : ℝ) (y : EReal) : (w : EReal) * ((x : EReal) + y) = (w : EReal) * x + (w : EReal) * y := by
  induction y using EReal.rec with
  | bot =>
    rcases lt_trichotomy w 0 with h | h | h
    · simp [EReal.coe_mul_bot_of_neg h, ← EReal.coe_mul]
    · simp [h]
    · simp [EReal.coe_mul_bot_of_pos h, ← EReal.coe_mul]
  | coe y => norm_cast; ring
  | top =>
    rcases lt_trichotomy w 0 with h | h | h
    · simp [EReal.coe_mul_top_of_neg h, ← EReal.coe_mul]
    · simp [h]
    · simp [EReal.coe_mul_top_of_pos h, ← EReal.coe_mul]

/-! ## The identity matrix -/

/-- `same` is one on the diagonal and zero off it. -/
theorem same_eq (a v : ℕ) (ha : a < 32) (hv : v < 32) : same a v = if a = v then 1 else 0 := by
  have h : ∀ a v : Fin 32, (IntOp.cmpi .eq (IntOp.addi (BitVec.ofNat 32 a.val) 0#32) (BitVec.ofNat 32 v.val)).toNat = if a.val = v.val then 1 else 0 := by
    decide +kernel
  show (((IntOp.cmpi .eq (IntOp.addi (BitVec.ofNat 32 a) 0#32) (BitVec.ofNat 32 v)).toNat : ℝ) : EReal) = _
  rw [h ⟨a, ha⟩ ⟨v, hv⟩]
  split <;> simp

/-- A sum over the gamma layer against spread weights is the sum over the variable's chunk, whatever the other factor. -/
theorem sum_spread (f : Fin 2048 → EReal) (W : Fin 32 → Fin 64 → EReal) (v : Fin 32) :
    ∑ g : Fin 2048, f g * spread W g v = ∑ d : Fin 64, f (chunk v d) * W v d := by
  have e := (Equiv.sum_comp (finProdFinEquiv (m := 32) (n := 64)) (fun g : Fin 2048 => f g * spread W g v)).symm
  rw [e, Fintype.sum_prod_type, Finset.sum_eq_single v]
  · refine Finset.sum_congr rfl fun d _ => ?_
    have hc : finProdFinEquiv (m := 32) (n := 64) (v, d) = chunk v d := Fin.ext (by simp [finProdFinEquiv, chunk]; omega)
    have hs : spread W (chunk v d) v = W v d := by
      have h1 : (chunk v d).val / 64 = v.val := by simp only [chunk]; omega
      have h2 : (chunk v d).val % 64 = d.val := by simp only [chunk]; omega
      simp only [spread, h1, h2, same_eq v.val v.val v.isLt v.isLt, if_true, mul_one]
    rw [hc, hs]
  · intro a _ ha
    refine Finset.sum_eq_zero fun d _ => ?_
    have h1 : (finProdFinEquiv (m := 32) (n := 64) (a, d)).val / 64 = a.val := by simp [finProdFinEquiv]; omega
    simp only [spread, h1, same_eq a.val v.val a.isLt v.isLt, if_neg (fun h => ha (Fin.ext h)), mul_zero]
  · intro h; exact absurd (Finset.mem_univ _) h

/-! ## The equation -/

/-- The arrays that the equation needs finite: the latent sample, the hidden layer, the gamma layer's weights and both
    heads' weights. The other arrays may hold anything. -/
structure Finite : Prop where
  z : ∀ b k, ∃ r : ℝ, I.z b k = r
  Wh : ∀ k j, ∃ r : ℝ, I.Wh k j = r
  bh : ∀ j, ∃ r : ℝ, I.bh j = r
  Wg : ∀ j g, ∃ r : ℝ, I.Wg j g = r
  Wm : ∀ v d, ∃ r : ℝ, I.Wm v d = r
  Wv : ∀ v d, ∃ r : ℝ, I.Wv v d = r

variable {I}

/-- The hidden layer is then finite. -/
theorem hidden_real (h : Finite I) (b : Fin 16384) (j : Fin 512) : ∃ r : ℝ, hidden I b j = r := by
  choose z hz using h.z
  choose Wh hWh using h.Wh
  choose bh hbh using h.bh
  refine ⟨max ((∑ k : Fin 256, z b k * Wh k j) + bh j) 0, ?_⟩
  simp only [Spec.hidden, hz, hWh, hbh, ← EReal.coe_mul, ← coe_sum, ← EReal.coe_add]
  exact (EReal.coe_strictMono.monotone.map_max (a := (∑ k : Fin 256, z b k * Wh k j) + bh j) (b := 0)).symm

/-- Multiplying the weights first, and summing the chunk afterwards, is the head. -/
theorem fold_eq (h : Finite I) (W : Fin 32 → Fin 64 → EReal) (hW : ∀ v d, ∃ r : ℝ, W v d = r) (β : Fin 32 → EReal)
    (b : Fin 16384) (v : Fin 32) :
    (∑ j : Fin 512, hidden I b j * ∑ g : Fin 2048, I.Wg j g * spread W g v) + ((∑ g : Fin 2048, I.bg g * spread W g v) + β v)
      = head I W β b v := by
  choose u hu using hidden_real h b
  choose Wg hWg using h.Wg
  choose w hw using hW
  have e1 : (∑ j : Fin 512, hidden I b j * ∑ g : Fin 2048, I.Wg j g * spread W g v)
      = ∑ d : Fin 64, (w v d : EReal) * ((∑ j : Fin 512, u j * Wg j (chunk v d) : ℝ) : EReal) := by
    simp only [sum_spread, hu, hWg, hw, ← EReal.coe_mul, ← coe_sum]
    refine congrArg _ ?_
    simp only [Finset.mul_sum]
    rw [Finset.sum_comm]
    exact Finset.sum_congr rfl fun d _ => Finset.sum_congr rfl fun j _ => by ring
  rw [e1, sum_spread, ← add_assoc, ← Finset.sum_add_distrib]
  unfold head
  refine congrArg (· + β v) (Finset.sum_congr rfl fun d _ => ?_)
  have e2 : gamma I b (chunk v d) = ((∑ j : Fin 512, u j * Wg j (chunk v d) : ℝ) : EReal) + I.bg (chunk v d) := by
    simp only [gamma, hu, hWg, ← EReal.coe_mul, ← coe_sum]
  rw [e2, hw, real_mul_add, mul_comm (I.bg _)]

/-- The folded heads are the heads. -/
theorem raw_eq (h : Finite I) (b : Fin 16384) (q : Fin 128) : raw I b q = head I (colW I q) (colB I q) b (colVar q) := by
  refine fold_eq h (colW I q) ?_ (colB I q) b (colVar q)
  intro v d
  unfold colW
  split
  · exact h.Wm v d
  · exact h.Wv v d

/-- A mean column is the mean head. -/
theorem raw_mean (h : Finite I) (b : Fin 16384) (q : Fin 128) (hq : isMean q = true) : raw I b q = meanRaw I b (colVar q) := by
  rw [raw_eq h]; simp only [colW, colB, hq, if_true, meanRaw]

/-- A variance column is the variance head. -/
theorem raw_var (h : Finite I) (b : Fin 16384) (q : Fin 128) (hq : isMean q = false) : raw I b q = varRaw I b (colVar q) := by
  rw [raw_eq h]; simp [colW, colB, hq, varRaw]

end Cert.Fold

end
-- ==== Proof.KerHost.lean ====
/- What the kernel program's host code hands to the two launches: the matrix of all heads, its bias, the data beside the
   mask, and the normalisation parameters, each read at an index; and the last reshape. -/
module

public import proofs.«01_k».proof.Proof.Gen.KernelIdeal.Frame
public import proofs.«01_k».proof.Proof.Fold
public import Idealize.ShloMosaic.Lib.Pointwise
public import Idealize.ShloMosaic.Lib.StableHlo.ReadAt

@[expose] public section

set_option maxRecDepth 16384

noncomputable section

namespace Cert.KerSide

open Cert.Spec (rd)
open Cert.KernelIdeal Cert.KernelIdeal.Gen Idealize.ShloMosaic Idealize.ShloMosaic.TcCoe Idealize.SL.Sem Idealize.ShloMosaic.StableHlo

/-- The contents of a device's buffers. -/
abbrev Mem := Valuation τ sig (Elt Ideal)

/-- The argument arrays of a device's buffers, as functions of their coordinates. -/
def inputs (W : Mem) : Spec.Inputs where
  z b k := rd S16384x256 (W ↑main_arg0) (ix2 b k)
  x b v := rd S16384x32 (W ↑main_arg1) (ix2 b v)
  miss b v := (W ↑main_arg2 : IVec S16384x32 32) (ix2 b v)
  norm v e := rd S32x2 (W ↑main_arg3) (ix2 v e)
  Wh k j := rd S256x512 (W ↑main_arg4) (ix2 k j)
  bh j := rd S512 (W ↑main_arg5) (ix1 j)
  Wg j g := rd S512x2048 (W ↑main_arg6) (ix2 j g)
  bg g := rd S2048 (W ↑main_arg7) (ix1 g)
  Wm v d := rd S32x64 (W ↑main_arg8) (ix2 v d)
  bm v := rd S32 (W ↑main_arg9) (ix1 v)
  Wv v d := rd S32x64 (W ↑main_arg10) (ix2 v d)
  bv v := rd S32 (W ↑main_arg11) (ix1 v)

/-! ## Before the first launch -/

/-- The matrix of all heads. -/
theorem whead_at (W : Mem) (g : Fin 2048) (q : Fin 128) :
    rd S2048x128 (after hostOps0 W ↑main_v22) (ix2 g q) = Fold.whead (inputs W) g q := by
  simp only [rd]
  after_reads_at
  split
  case isTrue h =>
    simp only [reshape_result']
    after_reads_at
    have hm : Fold.isMean q = true := by simp [Fold.isMean, h]
    simp [Fold.whead, Fold.colW, hm, Fold.colVar, h, Fold.spread, Fold.same, inputs, rd]
  case isFalse h =>
    split
    case isTrue h' =>
      simp only [reshape_result']
      after_reads_at
      simp [Fold.whead, Fold.colW, Fold.isMean, Fold.colVar, h, h', dif_pos, if_true, Fold.spread, Fold.same, inputs, rd]
    case isFalse h' =>
      simp only [reshape_result']
      after_reads_at
      split
      case isTrue h'' =>
        after_reads_at
        have hm : Fold.isMean q = true := by simp [Fold.isMean, h, h', h'']
        simp [Fold.whead, Fold.colW, hm, Fold.colVar, h, h', Fold.spread, Fold.same, inputs, rd]
      case isFalse h'' =>
        after_reads_at
        simp [Fold.whead, Fold.colW, Fold.isMean, Fold.colVar, h, h', h'', Fold.spread, Fold.same, inputs, rd]

/-- The heads' bias. -/
theorem bias_at (W : Mem) (q : Fin 128) :
    rd S1x128 (after hostOps0 W ↑main_v28) (ix2 0 q) = Fold.colB (inputs W) q (Fold.colVar q) := by
  simp only [rd]
  after_reads_at
  split
  case isTrue h =>
    after_reads_at
    simp [Fold.colB, Fold.isMean, Fold.colVar, h, inputs, rd]
  case isFalse h =>
    split
    case isTrue h' =>
      after_reads_at
      simp [Fold.colB, Fold.isMean, Fold.colVar, h, h', inputs, rd]
    case isFalse h' =>
      after_reads_at
      split
      case isTrue h'' =>
        after_reads_at
        simp [Fold.colB, Fold.isMean, Fold.colVar, h, h', h'', inputs, rd]
      case isFalse h'' =>
        after_reads_at
        simp [Fold.colB, Fold.isMean, Fold.colVar, h, h', h'', inputs, rd]

/-- The gamma layer's bias, as a row. -/
theorem bg_at (W : Mem) (g : Fin 2048) : rd S1x2048 (after hostOps0 W ↑main_v29) (ix2 0 g) = (inputs W).bg g := by
  simp only [rd, inputs]
  after_reads_at

/-! ## Before the second launch -/

/-- The data, in columns 0–31. -/
theorem data_at (W : Mem) (b : Fin 16384) (v : Fin 32) :
    rd S16384x128 (after hostOps1 W ↑main_v35) (ix2 b ⟨v.val, by omega⟩) = (inputs W).x b v := by
  simp only [rd, inputs]
  after_reads_at

/-- The mask, in columns 32–63. -/
theorem mask_at (W : Mem) (b : Fin 16384) (v : Fin 32) :
    rd S16384x128 (after hostOps1 W ↑main_v35) (ix2 b ⟨32 + v.val, by omega⟩) = Spec.observed (inputs W) b v := by
  simp only [rd]
  after_reads_at
  simp only [unary_result']
  after_reads_at
  simp [Spec.observed, inputs]

/-- Each variable's mean, twice in a row. -/
theorem meanPair_at (W : Mem) (l : Fin 64) :
    rd S1x64 (after hostOps1 W ↑main_v42) (ix2 0 l) = (inputs W).norm ⟨l.val / 2, by omega⟩ 0 := by
  simp only [rd, inputs]
  after_reads_at

/-- Each variable's variance, twice in a row. -/
theorem varPair_at (W : Mem) (l : Fin 64) :
    rd S1x64 (after hostOps1 W ↑main_v45) (ix2 0 l) = (inputs W).norm ⟨l.val / 2, by omega⟩ 1 := by
  simp only [rd, inputs]
  after_reads_at

/-- The hidden layer's bias, as a row. -/
theorem bh_at (W : Mem) (j : Fin 512) : rd S1x512 (after hostOps1 W ↑main_v46) (ix2 0 j) = (inputs W).bh j := by
  simp only [rd, inputs]
  after_reads_at

/-- Each variable's mean. -/
theorem mean_at (W : Mem) (v : Fin 32) : rd S1x32 (after hostOps1 W ↑main_v47) (ix2 0 v) = (inputs W).norm v 0 := by
  simp only [rd, inputs]
  after_reads_at

/-- Each variable's variance. -/
theorem var_at (W : Mem) (v : Fin 32) : rd S1x32 (after hostOps1 W ↑main_v48) (ix2 0 v) = (inputs W).norm v 1 := by
  simp only [rd, inputs]
  after_reads_at

/-! ## After the second launch -/

/-- The pairs, from the interleaved columns. -/
theorem pairs_at (W : Mem) (b : Fin 16384) (v : Fin 32) (e : Fin 2) :
    rd S16384x32x2 (after hostOps2 W ↑main_v50) (ix3 b v e) = rd S16384x64 (W ↑main_v49_3) (ix2 b ⟨v.val * 2 + e.val, by omega⟩) := by
  simp only [rd]
  after_reads_at

end Cert.KerSide

end
-- ==== Proof.Pre.lean ====
/- The precondition: where an array's absolute values compare below infinity, its elements are real numbers. -/
module

public import proofs.«01_k».proof.Defs
public import proofs.«01_k».proof.Proof.Gen.Pre_finite
public import proofs.«01_k».proof.Proof.KerHost

@[expose] public section

set_option maxRecDepth 16384

noncomputable section

namespace Cert.KerSide

open Cert.Spec (rd)
open Cert.KernelIdeal Cert.KernelIdeal.Gen Idealize.ShloMosaic Idealize.ShloMosaic.TcCoe Idealize.SL.Sem

/-- An extended real whose absolute value is below infinity is a real number. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = r := by
  have htop : Ideal.ofBits .f32 0x7F800000#32 = ⊤ := by simp [Ideal.ofBits, Ideal.ieee]
  rw [htop] at h
  induction x using EReal.rec with
  | bot => exact absurd h (by decide)
  | coe r => exact ⟨r, rfl⟩
  | top => exact absurd h (by decide)

variable (m : (ℓ : Loc nD τ sig) → Buf (Elt Ideal) ℓ) (ρ : Dev nD → PrngReg)

/-- The precondition makes the latent codes and the weights that it names real numbers. -/
theorem finite_of_pre (hP : Pre_KernelIdeal_finite (hPre_finite := Cert.Pre_finite.Gen.facts) m) (c : Dev nD) :
    Fold.Finite (inputs (W0 m ρ c)) := by
  obtain ⟨h0, h1, h2, h3, h4, h5⟩ := hP c
  exact {
    z := fun b k => real_of_abs_lt _ (congrFun h0 (ix2 b k))
    Wh := fun k j => real_of_abs_lt _ (congrFun h1 (ix2 k j))
    bh := fun j => real_of_abs_lt _ (congrFun h2 (ix1 j))
    Wg := fun j g => real_of_abs_lt _ (congrFun h3 (ix2 j g))
    Wm := fun v d => real_of_abs_lt _ (congrFun h4 (ix2 v d))
    Wv := fun v d => real_of_abs_lt _ (congrFun h5 (ix2 v d)) }

end Cert.KerSide

end
-- ==== Proof.RefKeep.lean ====
/- What each stage of the reference program leaves unchanged: the buffers the stage does not write. -/
module

public import proofs.«01_k».proof.Proof.RefRun

@[expose] public section

set_option maxRecDepth 16384

noncomputable section

namespace Cert.RefSide

open Cert.ReferenceIdeal Cert.ReferenceIdeal.Gen Idealize.ShloMosaic Idealize.ShloMosaic.TcCoe Idealize.SL.Sem Idealize.ShloMosaic.StableHlo

/-- The contents of a device's buffers. -/
abbrev Mem := Valuation τ sig (Elt Ideal)

/-- What the stage `hidOps` writes. -/
abbrev wrHid : List (Ref sig .tc) := [main_v0, main_v1, main_v2, main_v3, main_call0_cst, main_call0_v0, main_v4]

/-- The stage `hidOps` leaves every other buffer as it was. -/
theorem keepHid {r : Ref sig .tc} (hr : r ∉ wrHid) (W : Mem) : after hidOps W (Proc.devRef .tc r) = W (Proc.devRef .tc r) :=
  after_unwritten wrHid rfl hr W

/-- What the stage `gamOps` writes. -/
abbrev wrGam : List (Ref sig .tc) := [main_v5, main_v6, main_v7, main_v8, main_v9]

/-- The stage `gamOps` leaves every other buffer as it was. -/
theorem keepGam {r : Ref sig .tc} (hr : r ∉ wrGam) (W : Mem) : after gamOps W (Proc.devRef .tc r) = W (Proc.devRef .tc r) :=
  after_unwritten wrGam rfl hr W

/-- What the stage `headOps` writes. -/
abbrev wrHead : List (Ref sig .tc) := [main_v10, main_v11, main_v12, main_v13, main_v14, main_v15, main_v16, main_v17, main_v18, main_v19]

/-- The stage `headOps` leaves every other buffer as it was. -/
theorem keepHead {r : Ref sig .tc} (hr : r ∉ wrHead) (W : Mem) : after headOps W (Proc.devRef .tc r) = W (Proc.devRef .tc r) :=
  after_unwritten wrHead rfl hr W

/-- What the stage `maskOps` writes. -/
abbrev wrMask : List (Ref sig .tc) := [main_c, main_v20, main_v21, main_v22, main_v23]

/-- The stage `maskOps` leaves every other buffer as it was. -/
theorem keepMask {r : Ref sig .tc} (hr : r ∉ wrMask) (W : Mem) : after maskOps W (Proc.devRef .tc r) = W (Proc.devRef .tc r) :=
  after_unwritten wrMask rfl hr W

/-- What the stage `spOps` writes. -/
abbrev wrSp : List (Ref sig .tc) := [main_call3_cst, main_call3_v0, main_call3_v1, main_call3_v2, main_call3_v3, main_call3_v4, main_call3_v5, main_call3_v6, main_call3_v7, main_call3_v8, main_call3_v9, main_call3_v10, main_call3_v11, main_v24]

/-- The stage `spOps` leaves every other buffer as it was. -/
theorem keepSp {r : Ref sig .tc} (hr : r ∉ wrSp) (W : Mem) : after spOps W (Proc.devRef .tc r) = W (Proc.devRef .tc r) :=
  after_unwritten wrSp rfl hr W

/-- What the stage `clipOps` writes. -/
abbrev wrClip : List (Ref sig .tc) := [main_cst, main_cst_0, main_call4_v0, main_call4_v1, main_call4_v2, main_call4_v3, main_call4_v4, main_v25]

/-- The stage `clipOps` leaves every other buffer as it was. -/
theorem keepClip {r : Ref sig .tc} (hr : r ∉ wrClip) (W : Mem) : after clipOps W (Proc.devRef .tc r) = W (Proc.devRef .tc r) :=
  after_unwritten wrClip rfl hr W

/-- What the stage `normOps` writes. -/
abbrev wrNorm : List (Ref sig .tc) := [main_v26, main_v27, main_v28, main_v29, main_cst_1, main_cst_2, main_call5_v0, main_call5_v1, main_call5_v2, main_call5_v3, main_call5_v4, main_v30]

/-- The stage `normOps` leaves every other buffer as it was. -/
theorem keepNorm {r : Ref sig .tc} (hr : r ∉ wrNorm) (W : Mem) : after normOps W (Proc.devRef .tc r) = W (Proc.devRef .tc r) :=
  after_unwritten wrNorm rfl hr W

/-- What the stage `estOps` writes. -/
abbrev wrEst : List (Ref sig .tc) := [main_v31, main_v32, main_v33, main_v34, main_v35, main_v36, main_v37, main_v38, main_v39, main_v40]

/-- The stage `estOps` leaves every other buffer as it was. -/
theorem keepEst {r : Ref sig .tc} (hr : r ∉ wrEst) (W : Mem) : after estOps W (Proc.devRef .tc r) = W (Proc.devRef .tc r) :=
  after_unwritten wrEst rfl hr W

/-- What the stage `logOps` writes. -/
abbrev wrLog : List (Ref sig .tc) := [main_v41, main_v42, main_cst_3, main_v43, main_v44, main_v45, main_cst_4, main_v46, main_cst_5, main_v47, main_v48, main_v49, main_v50, main_v51, main_cst_6, main_v52, main_v53, main_v54]

/-- The stage `logOps` leaves every other buffer as it was. -/
theorem keepLog {r : Ref sig .tc} (hr : r ∉ wrLog) (W : Mem) : after logOps W (Proc.devRef .tc r) = W (Proc.devRef .tc r) :=
  after_unwritten wrLog rfl hr W

/-- What the stage `outOps` writes. -/
abbrev wrOut : List (Ref sig .tc) := [main_v55, main_v56, main_cst_7, main_v57, main_v58, main_v59, main_v60, main_v61, main_v62]

/-- The stage `outOps` leaves every other buffer as it was. -/
theorem keepOut {r : Ref sig .tc} (hr : r ∉ wrOut) (W : Mem) : after outOps W (Proc.devRef .tc r) = W (Proc.devRef .tc r) :=
  after_unwritten wrOut rfl hr W

/-- What the whole line writes. -/
abbrev wrAll : List (Ref sig .tc) := wrHid ++ wrGam ++ wrHead ++ wrMask ++ wrSp ++ wrClip ++ wrNorm ++ wrEst ++ wrLog ++ wrOut

/-- A buffer that the line never writes holds its launch contents after the stage `hidOps`. -/
theorem argHid {r : Ref sig .tc} (hr : r ∉ wrAll) (m : (ℓ : Loc nD τ sig) → Buf (Elt Ideal) ℓ) (c : Dev nD) :
    afterHid m c (Proc.devRef .tc r) = start m c (Proc.devRef .tc r) :=
  (keepHid (fun h => hr (by simp only [List.mem_append]; tauto)) _)

/-- A buffer that the line never writes holds its launch contents after the stage `gamOps`. -/
theorem argGam {r : Ref sig .tc} (hr : r ∉ wrAll) (m : (ℓ : Loc nD τ sig) → Buf (Elt Ideal) ℓ) (c : Dev nD) :
    afterGam m c (Proc.devRef .tc r) = start m c (Proc.devRef .tc r) :=
  (keepGam (fun h => hr (by simp only [List.mem_append]; tauto)) _).trans (argHid hr m c)

/-- A buffer that the line never writes holds its launch contents after the stage `headOps`. -/
theorem argHead {r : Ref sig .tc} (hr : r ∉ wrAll) (m : (ℓ : Loc nD τ sig) → Buf (Elt Ideal) ℓ) (c : Dev nD) :
    afterHead m c (Proc.devRef .tc r) = start m c (Proc.devRef .tc r) :=
  (keepHead (fun h => hr (by simp only [List.mem_append]; tauto)) _).trans (argGam hr m c)

/-- A buffer that the line never writes holds its launch contents after the stage `maskOps`. -/
theorem argMask {r : Ref sig .tc} (hr : r ∉ wrAll) (m : (ℓ : Loc nD τ sig) → Buf (Elt Ideal) ℓ) (c : Dev nD) :
    afterMask m c (Proc.devRef .tc r) = start m c (Proc.devRef .tc r) :=
  (keepMask (fun h => hr (by simp only [List.mem_append]; tauto)) _).trans (argHead hr m c)

/-- A buffer that the line never writes holds its launch contents after the stage `spOps`. -/
theorem argSp {r : Ref sig .tc} (hr : r ∉ wrAll) (m : (ℓ : Loc nD τ sig) → Buf (Elt Ideal) ℓ) (c : Dev nD) :
    afterSp m c (Proc.devRef .tc r) = start m c (Proc.devRef .tc r) :=
  (keepSp (fun h => hr (by simp only [List.mem_append]; tauto)) _).trans (argMask hr m c)

/-- A buffer that the line never writes holds its launch contents after the stage `clipOps`. -/
theorem argClip {r : Ref sig .tc} (hr : r ∉ wrAll) (m : (ℓ : Loc nD τ sig) → Buf (Elt Ideal) ℓ) (c : Dev nD) :
    afterClip m c (Proc.devRef .tc r) = start m c (Proc.devRef .tc r) :=
  (keepClip (fun h => hr (by simp only [List.mem_append]; tauto)) _).trans (argSp hr m c)

/-- A buffer that the line never writes holds its launch contents after the stage `normOps`. -/
theorem argNorm {r : Ref sig .tc} (hr : r ∉ wrAll) (m : (ℓ : Loc nD τ sig) → Buf (Elt Ideal) ℓ) (c : Dev nD) :
    afterNorm m c (Proc.devRef .tc r) = start m c (Proc.devRef .tc r) :=
  (keepNorm (fun h => hr (by simp only [List.mem_append]; tauto)) _).trans (argClip hr m c)

/-- A buffer that the line never writes holds its launch contents after the stage `estOps`. -/
theorem argEst {r : Ref sig .tc} (hr : r ∉ wrAll) (m : (ℓ : Loc nD τ sig) → Buf (Elt Ideal) ℓ) (c : Dev nD) :
    afterEst m c (Proc.devRef .tc r) = start m c (Proc.devRef .tc r) :=
  (keepEst (fun h => hr (by simp only [List.mem_append]; tauto)) _).trans (argNorm hr m c)

/-- A buffer that the line never writes holds its launch contents after the stage `logOps`. -/
theorem argLog {r : Ref sig .tc} (hr : r ∉ wrAll) (m : (ℓ : Loc nD τ sig) → Buf (Elt Ideal) ℓ) (c : Dev nD) :
    afterLog m c (Proc.devRef .tc r) = start m c (Proc.devRef .tc r) :=
  (keepLog (fun h => hr (by simp only [List.mem_append]; tauto)) _).trans (argEst hr m c)

/-- A buffer that the line never writes holds its launch contents after the stage `outOps`. -/
theorem argOut {r : Ref sig .tc} (hr : r ∉ wrAll) (m : (ℓ : Loc nD τ sig) → Buf (Elt Ideal) ℓ) (c : Dev nD) :
    afterOut m c (Proc.devRef .tc r) = start m c (Proc.devRef .tc r) :=
  (keepOut (fun h => hr (by simp only [List.mem_append]; tauto)) _).trans (argLog hr m c)

end Cert.RefSide

end
-- ==== Proof.RefStage.lean ====
/- What each stage of the reference program writes, read at one index: a scalar expression over the contents the stage
   starts from. -/
module

public import proofs.«01_k».proof.Proof.RefKeep
public import proofs.«01_k».proof.Proof.Consts
public import Idealize.ShloMosaic.Lib.Pointwise
public import Idealize.ShloMosaic.Lib.StableHlo.ReadAt

@[expose] public section

set_option maxRecDepth 16384

noncomputable section

namespace Cert.RefSide

open Cert.Spec (rd)
open Cert.ReferenceIdeal Cert.ReferenceIdeal.Gen Idealize.ShloMosaic Idealize.ShloMosaic.TcCoe Idealize.SL.Sem Idealize.ShloMosaic.StableHlo

/-- The hidden layer at row `b`, unit `j`. -/
theorem hid_at (W : Mem) (b : Fin 16384) (j : Fin 512) :
    rd S16384x512 (after hidOps W ↑main_v4) (ix2 b j)
      = max ((∑ k : Fin 256, rd S16384x256 (W ↑main_arg0) (ix2 b k) * rd S256x512 (W ↑main_arg4) (ix2 k j))
          + rd S512 (W ↑main_arg5) (ix1 j)) 0 := by
  simp only [rd]
  after_reads_at

/-- The gamma layer at row `b`, variable `v`, position `d` of its chunk. -/
theorem gam_at (W : Mem) (b : Fin 16384) (v : Fin 32) (d : Fin 64) :
    rd S16384x32x64 (after gamOps W ↑main_v9) (ix3 b v d)
      = (∑ j : Fin 512, rd S16384x512 (W ↑main_v4) (ix2 b j) * rd S512x2048 (W ↑main_arg6) (ix2 j (Spec.chunk v d)))
          + rd S2048 (W ↑main_arg7) (ix1 (Spec.chunk v d)) := by
  simp only [rd]
  after_reads_at
  rfl

/-- The mean head at row `b`, variable `v`. -/
theorem mean_at (W : Mem) (b : Fin 16384) (v : Fin 32) :
    rd S16384x32 (after headOps W ↑main_v14) (ix2 b v)
      = (∑ d : Fin 64, rd S32x64 (W ↑main_arg8) (ix2 v d) * rd S16384x32x64 (W ↑main_v9) (ix3 b v d))
          + rd S32 (W ↑main_arg9) (ix1 v) := by
  simp only [rd]
  after_reads_at

/-- The variance head at row `b`, variable `v`. -/
theorem var_at (W : Mem) (b : Fin 16384) (v : Fin 32) :
    rd S16384x32 (after headOps W ↑main_v19) (ix2 b v)
      = (∑ d : Fin 64, rd S32x64 (W ↑main_arg10) (ix2 v d) * rd S16384x32x64 (W ↑main_v9) (ix3 b v d))
          + rd S32 (W ↑main_arg11) (ix1 v) := by
  simp only [rd]
  after_reads_at

/-- The mask: whether the variable is observed. -/
theorem mask_at (W : Mem) (b : Fin 16384) (v : Fin 32) :
    (after maskOps W ↑main_v21 : IVec S16384x32 1) (ix2 b v)
      = IntOp.cmpi .eq ((W ↑main_arg2 : IVec S16384x32 32) (ix2 b v)) 1#32 := by
  after_reads_at

/-- The stitch of the masked and unmasked means is the mean itself. -/
theorem maskMean_at (W : Mem) (b : Fin 16384) (v : Fin 32) :
    rd S16384x32 (after maskOps W ↑main_v22) (ix2 b v) = rd S16384x32 (W ↑main_v14) (ix2 b v) := by
  simp only [rd]
  after_reads_at

/-- The stitch of the masked and unmasked variances is the variance itself. -/
theorem maskVar_at (W : Mem) (b : Fin 16384) (v : Fin 32) :
    rd S16384x32 (after maskOps W ↑main_v23) (ix2 b v) = rd S16384x32 (W ↑main_v19) (ix2 b v) := by
  simp only [rd]
  after_reads_at

/-- The softplus of the raw variance. -/
theorem sp_at (W : Mem) (b : Fin 16384) (v : Fin 32) :
    rd S16384x32 (after spOps W ↑main_v24) (ix2 b v)
      = Spec.softplus (rd S16384x32 (W ↑main_v23) (ix2 b v)) := by
  simp only [rd, Spec.softplus]
  after_reads_at
  rw [if_neg (fun h => h rfl)]

/-- The clip of the softplus. -/
theorem clip_at (W : Mem) (b : Fin 16384) (v : Fin 32) :
    rd S16384x32 (after clipOps W ↑main_v25) (ix2 b v)
      = Spec.clip (rd S16384x32 (W ↑main_v24) (ix2 b v)) := by
  simp only [rd, Spec.clip]
  after_reads_at
  rfl

/-- The variable's mean. -/
theorem dataMean_at (W : Mem) (v : Fin 32) :
    rd S32 (after normOps W ↑main_v27) (ix1 v) = rd S32x2 (W ↑main_arg3) (ix2 v 0) := by
  simp only [rd]
  after_reads_at

/-- The variable's variance, clipped. -/
theorem dataVar_at (W : Mem) (v : Fin 32) :
    rd S32 (after normOps W ↑main_v30) (ix1 v) = Spec.clip (rd S32x2 (W ↑main_arg3) (ix2 v 1)) := by
  simp only [rd, Spec.clip]
  after_reads_at
  rfl

/-- The estimated mean. -/
theorem estMean_at (W : Mem) (b : Fin 16384) (v : Fin 32) :
    rd S16384x32 (after estOps W ↑main_v37) (ix2 b v)
      = Ideal.sqrt (rd S32 (W ↑main_v30) (ix1 v)) * rd S16384x32 (W ↑main_v22) (ix2 b v)
          + rd S32 (W ↑main_v27) (ix1 v) := by
  simp only [rd]
  after_reads_at

/-- The estimated variance. -/
theorem estVar_at (W : Mem) (b : Fin 16384) (v : Fin 32) :
    rd S16384x32 (after estOps W ↑main_v40) (ix2 b v)
      = rd S32 (W ↑main_v30) (ix1 v) * rd S16384x32 (W ↑main_v25) (ix2 b v) := by
  simp only [rd]
  after_reads_at

/-- The log density. -/
theorem log_at (W : Mem) (b : Fin 16384) (v : Fin 32) :
    rd S16384x32 (after logOps W ↑main_v54) (ix2 b v)
      = Spec.logNormal (rd S16384x32 (W ↑main_arg1) (ix2 b v)) (rd S16384x32 (W ↑main_v37) (ix2 b v))
          (rd S16384x32 (W ↑main_v40) (ix2 b v)) := by
  unfold Spec.logNormal
  rw [← Spec.halfLog_eq]
  simp only [rd]
  after_reads_at
  rfl

/-- The observed log density. -/
theorem logPx_at (W : Mem) (b : Fin 16384) (v : Fin 32) :
    rd S16384x32 (after outOps W ↑main_v56) (ix2 b v)
      = rd S16384x32 (W ↑main_v54) (ix2 b v) * FloatOps.uitofp (F := Ideal) .f32 ((W ↑main_v21 : IVec S16384x32 1) (ix2 b v)) := by
  simp only [rd]
  after_reads_at

/-- The missing log density. -/
theorem logPxMissing_at (W : Mem) (b : Fin 16384) (v : Fin 32) :
    rd S16384x32 (after outOps W ↑main_v59) (ix2 b v)
      = rd S16384x32 (W ↑main_v54) (ix2 b v) * (1 - FloatOps.uitofp (F := Ideal) .f32 ((W ↑main_v21 : IVec S16384x32 1) (ix2 b v))) := by
  simp only [rd]
  after_reads_at

/-- The pair (mean, variance). -/
theorem params_at (W : Mem) (b : Fin 16384) (v : Fin 32) (e : Fin 2) :
    rd S16384x32x2 (after outOps W ↑main_v62) (ix3 b v e)
      = if e.val < 1 then rd S16384x32 (W ↑main_v37) (ix2 b v) else rd S16384x32 (W ↑main_v40) (ix2 b v) := by
  simp only [rd]
  after_reads_at
  pointwise [pairUp]
  rfl

end Cert.RefSide

end
-- ==== Proof.RefVal.lean ====
/- What the reference program's results hold: each result array at an index is the function of the same name in
   `Spec`, at the arrays the program was launched with. -/
module

public import proofs.«01_k».proof.Proof.RefStage

@[expose] public section

set_option maxRecDepth 16384

noncomputable section

namespace Cert.RefSide

open Cert.Spec (rd)
open Cert.ReferenceIdeal Cert.ReferenceIdeal.Gen Idealize.ShloMosaic Idealize.ShloMosaic.TcCoe Idealize.SL.Sem Idealize.ShloMosaic.StableHlo

/-- The argument arrays of a device's buffers, as functions of their coordinates. -/
def inputs (W : Mem) : Spec.Inputs where
  z b k := rd S16384x256 (W ↑main_arg0) (ix2 b k)
  x b v := rd S16384x32 (W ↑main_arg1) (ix2 b v)
  miss b v := (W ↑main_arg2 : IVec S16384x32 32) (ix2 b v)
  norm v e := rd S32x2 (W ↑main_arg3) (ix2 v e)
  Wh k j := rd S256x512 (W ↑main_arg4) (ix2 k j)
  bh j := rd S512 (W ↑main_arg5) (ix1 j)
  Wg j g := rd S512x2048 (W ↑main_arg6) (ix2 j g)
  bg g := rd S2048 (W ↑main_arg7) (ix1 g)
  Wm v d := rd S32x64 (W ↑main_arg8) (ix2 v d)
  bm v := rd S32 (W ↑main_arg9) (ix1 v)
  Wv v d := rd S32x64 (W ↑main_arg10) (ix2 v d)
  bv v := rd S32 (W ↑main_arg11) (ix1 v)

variable (m : (ℓ : Loc nD τ sig) → Buf (Elt Ideal) ℓ) (c : Dev nD)

/-- The arrays the reference was launched with on device `c`. -/
abbrev given : Spec.Inputs := inputs (start m c)

/-- The hidden layer. -/
theorem hid_val (b : Fin 16384) (j : Fin 512) : rd S16384x512 (afterHid m c ↑main_v4) (ix2 b j) = Spec.hidden (given m c) b j :=
  hid_at (start m c) b j

/-- The gamma layer. -/
theorem gam_val (b : Fin 16384) (v : Fin 32) (d : Fin 64) :
    rd S16384x32x64 (afterGam m c ↑main_v9) (ix3 b v d) = Spec.gamma (given m c) b (Spec.chunk v d) := by
  refine (gam_at _ b v d).trans ?_
  rw [argHid (r := main_arg6) (by decide), argHid (r := main_arg7) (by decide)]
  exact congrArg (· + _) (Finset.sum_congr rfl fun j _ => congrArg (· * _) (hid_val m c b j))

/-- The mean head. -/
theorem mean_val (b : Fin 16384) (v : Fin 32) : rd S16384x32 (afterHead m c ↑main_v14) (ix2 b v) = Spec.meanRaw (given m c) b v := by
  refine (mean_at _ b v).trans ?_
  rw [argGam (r := main_arg8) (by decide), argGam (r := main_arg9) (by decide)]
  exact congrArg (· + _) (Finset.sum_congr rfl fun d _ => congrArg (_ * ·) (gam_val m c b v d))

/-- The variance head. -/
theorem var_val (b : Fin 16384) (v : Fin 32) : rd S16384x32 (afterHead m c ↑main_v19) (ix2 b v) = Spec.varRaw (given m c) b v := by
  refine (var_at _ b v).trans ?_
  rw [argGam (r := main_arg10) (by decide), argGam (r := main_arg11) (by decide)]
  exact congrArg (· + _) (Finset.sum_congr rfl fun d _ => congrArg (_ * ·) (gam_val m c b v d))

/-- The mask, up to the stage that uses it last. -/
theorem mask_val (b : Fin 16384) (v : Fin 32) :
    (afterLog m c ↑main_v21 : IVec S16384x32 1) (ix2 b v) = IntOp.cmpi .eq ((given m c).miss b v) 1#32 := by
  have h : afterLog m c ↑main_v21 = afterMask m c ↑main_v21 :=
    (keepLog (by decide) _).trans ((keepEst (by decide) _).trans ((keepNorm (by decide) _).trans
      ((keepClip (by decide) _).trans (keepSp (by decide) _))))
  rw [h]
  refine (mask_at _ b v).trans ?_
  rw [argHead (r := main_arg2) (by decide)]
  rfl

/-- The mean after the stitch. -/
theorem stitched_val (b : Fin 16384) (v : Fin 32) : rd S16384x32 (afterNorm m c ↑main_v22) (ix2 b v) = Spec.meanRaw (given m c) b v := by
  have h : afterNorm m c ↑main_v22 = afterMask m c ↑main_v22 :=
    (keepNorm (by decide) _).trans ((keepClip (by decide) _).trans (keepSp (by decide) _))
  rw [h]
  exact (maskMean_at _ b v).trans (mean_val m c b v)

/-- The softplus of the variance head. -/
theorem sp_val (b : Fin 16384) (v : Fin 32) :
    rd S16384x32 (afterSp m c ↑main_v24) (ix2 b v) = Spec.softplus (Spec.varRaw (given m c) b v) := by
  refine (sp_at _ b v).trans (congrArg Spec.softplus ?_)
  exact (maskVar_at _ b v).trans (var_val m c b v)

/-- Its clip. -/
theorem clip_val (b : Fin 16384) (v : Fin 32) :
    rd S16384x32 (afterNorm m c ↑main_v25) (ix2 b v) = Spec.clip (Spec.softplus (Spec.varRaw (given m c) b v)) := by
  have h : afterNorm m c ↑main_v25 = afterClip m c ↑main_v25 := keepNorm (by decide) _
  rw [h]
  exact (clip_at _ b v).trans (congrArg Spec.clip (sp_val m c b v))

/-- The variable's mean. -/
theorem dataMean_val (v : Fin 32) : rd S32 (afterNorm m c ↑main_v27) (ix1 v) = (given m c).norm v 0 := by
  refine (dataMean_at _ v).trans ?_
  rw [argClip (r := main_arg3) (by decide)]
  rfl

/-- The variable's clipped variance. -/
theorem dataVar_val (v : Fin 32) : rd S32 (afterNorm m c ↑main_v30) (ix1 v) = Spec.dataVar (given m c) v := by
  refine (dataVar_at _ v).trans ?_
  rw [argClip (r := main_arg3) (by decide)]
  rfl

/-- The estimated mean. -/
theorem estMean_val (b : Fin 16384) (v : Fin 32) : rd S16384x32 (afterEst m c ↑main_v37) (ix2 b v) = Spec.estMean (given m c) b v := by
  refine (estMean_at _ b v).trans ?_
  rw [dataVar_val, stitched_val, dataMean_val]
  rfl

/-- The estimated variance. -/
theorem estVar_val (b : Fin 16384) (v : Fin 32) : rd S16384x32 (afterEst m c ↑main_v40) (ix2 b v) = Spec.estVar (given m c) b v := by
  refine (estVar_at _ b v).trans ?_
  rw [dataVar_val, clip_val]
  rfl

/-- The log density. -/
theorem log_val (b : Fin 16384) (v : Fin 32) : rd S16384x32 (afterLog m c ↑main_v54) (ix2 b v) = Spec.logDensity (given m c) b v := by
  refine (log_at _ b v).trans ?_
  rw [estMean_val, estVar_val, argEst (r := main_arg1) (by decide)]
  rfl

/-- First result. -/
theorem logPx_val (b : Fin 16384) (v : Fin 32) : rd S16384x32 (afterOut m c ↑main_v56) (ix2 b v) = Spec.logPx (given m c) b v := by
  refine (logPx_at _ b v).trans ?_
  rw [log_val, mask_val]
  rfl

/-- Second result. -/
theorem logPxMissing_val (b : Fin 16384) (v : Fin 32) :
    rd S16384x32 (afterOut m c ↑main_v59) (ix2 b v) = Spec.logPxMissing (given m c) b v := by
  refine (logPxMissing_at _ b v).trans ?_
  rw [log_val, mask_val]
  rfl

/-- Third result. -/
theorem mean_result_val (b : Fin 16384) (v : Fin 32) : rd S16384x32 (afterOut m c ↑main_v37) (ix2 b v) = Spec.estMean (given m c) b v := by
  have h : afterOut m c ↑main_v37 = afterEst m c ↑main_v37 := (keepOut (by decide) _).trans (keepLog (by decide) _)
  rw [h, estMean_val]

/-- Fourth result. -/
theorem params_val (b : Fin 16384) (v : Fin 32) (e : Fin 2) :
    rd S16384x32x2 (afterOut m c ↑main_v62) (ix3 b v e) = Spec.params (given m c) b v e := by
  refine (params_at _ b v e).trans ?_
  have h37 : afterLog m c ↑main_v37 = afterEst m c ↑main_v37 := keepLog (by decide) _
  have h40 : afterLog m c ↑main_v40 = afterEst m c ↑main_v40 := keepLog (by decide) _
  rw [h37, h40, estMean_val, estVar_val]
  rfl

/-- Every argument array is left as launched. -/
theorem arg_val {r : Ref sig .tc} (hr : r ∉ wrAll) : afterOut m c (Proc.devRef .tc r) = m ((c.tc : Thread nD τ).loc r) :=
  argOut hr m c

end Cert.RefSide

end
-- ==== Proof.KerPay.lean ====
/- What the two kernel bodies compute, at an index, from the blocks that they load. -/
module

public import proofs.«01_k».proof.Proof.Gen.KernelIdeal.Frame
public import proofs.«01_k».proof.Proof.Fold
public import Idealize.ShloMosaic.Lib.Pointwise

@[expose] public section

set_option maxRecDepth 16384

noncomputable section

namespace Cert.KerSide

open Cert.Spec (rd)
open Cert.KernelIdeal Cert.KernelIdeal.Gen Idealize.ShloMosaic Idealize.ShloMosaic.TcCoe Idealize.SL.Sem

/-- The first body's product: a row of the first block times a column of the second. -/
theorem prod_pay (a : FVec Ideal S512x2048 .f32) (w : FVec Ideal S2048x128 .f32) (j : Fin 512) (q : Fin 128) :
    rd S512x128 (k0_pay1 a w) (ix2 j q) = ∑ g, rd S512x2048 a (ix2 j g) * rd S2048x128 w (ix2 g q) := by
  simp only [rd]
  unfold_payloads
  pointwise!

/-- The first body's bias: the row times a column, and the heads' bias. -/
theorem bias_pay (a : FVec Ideal S1x2048 .f32) (w : FVec Ideal S2048x128 .f32) (d : FVec Ideal S1x128 .f32) (q : Fin 128) :
    rd S1x128 (k0_pay2 a w d) (ix2 0 q)
      = (∑ g, rd S1x2048 a (ix2 0 g) * rd S2048x128 w (ix2 g q)) + rd S1x128 d (ix2 0 q) := by
  simp only [rd]
  unfold_payloads
  pointwise!

/-- The second body's value in a column of the 128: the hidden row times the folded matrix, and the folded bias. -/
theorem raw_pay (z : FVec Ideal S4096x256 .f32) (Wh : FVec Ideal S256x512 .f32) (bh : FVec Ideal S1x512 .f32)
    (w : FVec Ideal S512x128 .f32) (d : FVec Ideal S1x128 .f32) (b : Fin 4096) (q : Fin 128) :
    rd S4096x128 (k1_pay2 z Wh bh w d) (ix2 b q)
      = (∑ j, max ((∑ k, rd S4096x256 z (ix2 b k) * rd S256x512 Wh (ix2 k j)) + rd S1x512 bh (ix2 0 j)) (0 : EReal)
          * rd S512x128 w (ix2 j q)) + rd S1x128 d (ix2 0 q) := by
  simp only [rd]
  unfold_payloads
  pointwise!

/-- The named constant is half the logarithm of 2π. -/
theorem named_halfLog : (Named.named κ "half_log_2pi" 0x3F6B3F8E#32 : Ideal .f32) = Spec.halfLog := rfl

/-- The softplus as the bodies write it. -/
theorem softplus_form (x : EReal) :
    (max x 0 : EReal) + Ideal.log1p (Ideal.exp (0 - FloatOps.absf (F := Ideal) (φ := .f32) x)) = Spec.softplus x := by
  unfold Spec.softplus
  rw [zero_sub]

/-- The second body's first 32 columns: the mean heads. -/
theorem meanCol_pay (z : FVec Ideal S4096x256 .f32) (Wh : FVec Ideal S256x512 .f32) (bh : FVec Ideal S1x512 .f32)
    (w : FVec Ideal S512x128 .f32) (d : FVec Ideal S1x128 .f32) (b : Fin 4096) (v : Fin 32) :
    rd S4096x32 (k1_pay4 z Wh bh w d) (ix2 b v) = rd S4096x128 (k1_pay2 z Wh bh w d) (ix2 b ⟨v.val, by omega⟩) := by
  simp only [rd]
  unfold k1_pay4
  generalize k1_pay2 (F := Ideal) z Wh bh w d = r
  pointwise!

/-- The second body's last 64 columns: the two heads interleaved. -/
theorem pairCol_pay (z : FVec Ideal S4096x256 .f32) (Wh : FVec Ideal S256x512 .f32) (bh : FVec Ideal S1x512 .f32)
    (w : FVec Ideal S512x128 .f32) (d : FVec Ideal S1x128 .f32) (b : Fin 4096) (l : Fin 64) :
    rd S4096x64 (k1_pay5 z Wh bh w d) (ix2 b l) = rd S4096x128 (k1_pay2 z Wh bh w d) (ix2 b ⟨64 + l.val, by omega⟩) := by
  simp only [rd]
  unfold k1_pay5
  generalize k1_pay2 (F := Ideal) z Wh bh w d = r
  pointwise!

/-- The second body's columns 32–63, through the softplus and the clip: the variance heads. -/
theorem varCol_pay (z : FVec Ideal S4096x256 .f32) (Wh : FVec Ideal S256x512 .f32) (bh : FVec Ideal S1x512 .f32)
    (w : FVec Ideal S512x128 .f32) (d : FVec Ideal S1x128 .f32) (b : Fin 4096) (v : Fin 32) :
    rd S4096x32 (k1_pay6 z Wh bh w d) (ix2 b v)
      = Spec.clip (Spec.softplus (rd S4096x128 (k1_pay2 z Wh bh w d) (ix2 b ⟨32 + v.val, by omega⟩))) := by
  simp only [rd, Spec.clip, ← softplus_form]
  unfold k1_pay6
  generalize k1_pay2 (F := Ideal) z Wh bh w d = r
  pointwise!

/-- A cast of a block to its own shape changes nothing. -/
theorem pay3_eq (x : FVec Ideal S4096x128 .f32) : k1_pay3 x = x := by
  funext i; idx_vars i; unfold_payloads; pointwise!

/-- A cast of a row to its own shape changes nothing. -/
theorem pay7_eq (x : FVec Ideal S1x32 .f32) : k1_pay7 x = x := by
  funext i; idx_vars i; unfold_payloads; pointwise!

/-- The estimated mean in the second body. -/
theorem estMean_pay (r : FVec Ideal S4096x32 .f32) (nm nv : FVec Ideal S1x32 .f32) (b : Fin 4096) (v : Fin 32) :
    rd S4096x32 (k1_pay9 r nm nv) (ix2 b v)
      = Ideal.sqrt (Spec.clip (rd S1x32 nv (ix2 0 v))) * rd S4096x32 r (ix2 b v) + rd S1x32 nm (ix2 0 v) := by
  simp only [rd, Spec.clip]
  unfold_payloads
  pointwise!

/-- The log density in the second body. -/
theorem density_pay (x : FVec Ideal S4096x128 .f32) (r s : FVec Ideal S4096x32 .f32) (nm nv : FVec Ideal S1x32 .f32)
    (b : Fin 4096) (v : Fin 32) :
    rd S4096x32 (k1_pay10 x r s nm nv) (ix2 b v)
      = Spec.logNormal (rd S4096x128 x (ix2 b ⟨v.val, by omega⟩)) (rd S4096x32 (k1_pay9 r nm nv) (ix2 b v))
          (Spec.clip (rd S1x32 nv (ix2 0 v)) * rd S4096x32 s (ix2 b v)) := by
  simp only [rd, Spec.clip, Spec.logNormal, ← named_halfLog, ← mul_assoc]
  unfold k1_pay10
  generalize k1_pay9 r nm nv = μ
  unfold_payloads
  pointwise!

/-- The log density of the observed data in the second body. -/
theorem observed_pay (x : FVec Ideal S4096x128 .f32) (r s : FVec Ideal S4096x32 .f32) (nm nv : FVec Ideal S1x32 .f32)
    (b : Fin 4096) (v : Fin 32) :
    rd S4096x32 (k1_pay12 x r s nm nv) (ix2 b v)
      = rd S4096x32 (k1_pay10 x r s nm nv) (ix2 b v) * rd S4096x128 x (ix2 b ⟨32 + v.val, by omega⟩) := by
  simp only [rd]
  unfold k1_pay12
  generalize k1_pay10 x r s nm nv = p
  unfold_payloads
  pointwise!

/-- The log density of the missing data in the second body. -/
theorem missing_pay (x : FVec Ideal S4096x128 .f32) (r s : FVec Ideal S4096x32 .f32) (nm nv : FVec Ideal S1x32 .f32)
    (b : Fin 4096) (v : Fin 32) :
    rd S4096x32 (k1_pay13 x r s nm nv) (ix2 b v)
      = rd S4096x32 (k1_pay10 x r s nm nv) (ix2 b v) * ((1 : EReal) - rd S4096x128 x (ix2 b ⟨32 + v.val, by omega⟩)) := by
  simp only [rd]
  unfold k1_pay13
  generalize k1_pay10 x r s nm nv = p
  unfold_payloads
  pointwise!

/-- The lane's parity as the second body computes it: the remainder by two, made non-negative, compared with zero. -/
theorem parity (l : Fin 64) :
    (IntOp.cmpi CmpIPredicate.eq
        (Scalar.select
          (IntOp.andi
            (IntOp.xori
              (IntOp.cmpi CmpIPredicate.slt
                (IntOp.remsi ArithUnit.vector (BitVec.ofNat 32 l.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 l.val)
                (Scalar.select (Scalar.cmpi CmpIPredicate.eq 2#32 0#32) 1#32 2#32))
              0#32))
          (IntOp.addi
            (IntOp.remsi ArithUnit.vector (BitVec.ofNat 32 l.val)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 l.val)
            (Scalar.select (Scalar.cmpi CmpIPredicate.eq 2#32 0#32) 1#32 2#32)))
        0#32) = if l.val % 2 < 1 then 1#1 else 0#1 := by
  revert l; decide +kernel

/-- The choice between the two interleaved columns: on an even lane the mean, on an odd lane the variance. -/
theorem pair_pay (r : FVec Ideal S4096x64 .f32) (nm nv : FVec Ideal S1x64 .f32) (b : Fin 4096) (l : Fin 64) :
    rd S4096x64 (k1_pay1 r (k1_pay14 nv) (k1_pay15 r nv) nm) (ix2 b l)
      = if l.val % 2 < 1 then
          Ideal.sqrt (Spec.clip (rd S1x64 nv (ix2 0 l))) * rd S4096x64 r (ix2 b l) + rd S1x64 nm (ix2 0 l)
        else Spec.clip (rd S1x64 nv (ix2 0 l)) * Spec.clip (Spec.softplus (rd S4096x64 r (ix2 b l))) := by
  simp only [rd, Spec.clip, ← softplus_form]
  unfold_payloads
  pointwise
  rw [parity]
  split <;> rfl

end Cert.KerSide

end
-- ==== Proof.KerFold.lean ====
/- What the first launch leaves: the gamma layer's weights times the matrix of all heads, and the folded bias. -/
module

public import proofs.«01_k».proof.Proof.KerHost
public import proofs.«01_k».proof.Proof.KerPay
public import Idealize.ShloMosaic.Lib.Pipeline.ValueKit

@[expose] public section

set_option maxRecDepth 16384

noncomputable section

namespace Cert.KerSide

open Cert.Spec (rd)
open Cert.KernelIdeal Cert.KernelIdeal.Gen Idealize.ShloMosaic Idealize.ShloMosaic.TcCoe Idealize.SL.Sem

/-- Every block of the first launch is its whole array. -/
theorem idx0 : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

variable (V : (c : Dev nD) → (b : Ref sig .tc) → Buf (Elt Ideal) ((c : Thread nD τ).loc b)) (c : Dev nD)

theorem blk0_0 (t : Fin cfg0.N) (j : Fin 512) (g : Fin 2048) :
    rd S512x2048 (iblk0 V c 0 t) (ix2 j g) = rd S512x2048 (V c main_arg6) (ix2 j g) := by
  simp only [rd]
  blk_ext [iblk0, idx0 t]

theorem blk0_1 (t : Fin cfg0.N) (g : Fin 2048) (q : Fin 128) :
    rd S2048x128 (iblk0 V c 1 t) (ix2 g q) = rd S2048x128 (V c main_v22) (ix2 g q) := by
  simp only [rd]
  blk_ext [iblk0, idx0 t]

theorem blk0_2 (t : Fin cfg0.N) (g : Fin 2048) :
    rd S1x2048 (iblk0 V c 2 t) (ix2 0 g) = rd S1x2048 (V c main_v29) (ix2 0 g) := by
  simp only [rd]
  blk_ext [iblk0, idx0 t]

theorem blk0_3 (t : Fin cfg0.N) (q : Fin 128) :
    rd S1x128 (iblk0 V c 3 t) (ix2 0 q) = rd S1x128 (V c main_v28) (ix2 0 q) := by
  simp only [rd]
  blk_ext [iblk0, idx0 t]

/-- The first launch's product array. -/
theorem arr0_4 : (dat0 V c).arrAt 4 cfg0.N = fun i : S512x128.Idx =>
    ∑ g : Fin 2048, rd S512x2048 (V c main_arg6) (ix2 (i 0) g) * rd S2048x128 (V c main_v22) (ix2 g (i 1)) := by
  refine (dat0 V c).arrAt_eq_of_covers 4 _ (by decide +kernel) fun t hf y => ?_
  blk_simp
  rw [after0_4]
  frame_out
  idx_vars y
  refine (prod_pay _ _ _ _).trans (Finset.sum_congr rfl fun g _ => ?_)
  rw [blk0_0, blk0_1]
  simp only [rd]
  congr 1 <;> blk_ext [idx0 t]

/-- The first launch's bias array. -/
theorem arr0_5 : (dat0 V c).arrAt 5 cfg0.N = fun i : S1x128.Idx =>
    (∑ g : Fin 2048, rd S1x2048 (V c main_v29) (ix2 0 g) * rd S2048x128 (V c main_v22) (ix2 g (i 1)))
      + rd S1x128 (V c main_v28) (ix2 0 (i 1)) := by
  refine (dat0 V c).arrAt_eq_of_covers 5 _ (by decide +kernel) fun t hf y => ?_
  blk_simp
  rw [after0_5]
  frame_out
  idx_vars y
  obtain rfl : y0 = 0 := Subsingleton.elim _ _
  refine (bias_pay _ _ _ _).trans (congrArg₂ (· + ·) (Finset.sum_congr rfl fun g _ => ?_) ?_)
  · rw [blk0_2, blk0_1]
    simp only [rd]
    congr 1 <;> blk_ext [idx0 t]
  · rw [blk0_3]
    simp only [rd]
    blk_ext [idx0 t]

/-! ## At the launch's own contents -/

variable (m : (ℓ : Loc nD τ sig) → Buf (Elt Ideal) ℓ) (ρ : Dev nD → PrngReg)

/-- The argument arrays as launched. -/
abbrev given : Spec.Inputs := inputs (W0 m ρ c)

/-- The folded matrix after the first launch. -/
theorem fold_at (j : Fin 512) (q : Fin 128) :
    rd S512x128 (W2 m ρ c (Proc.devRef .tc main_v30_0)) (ix2 j q) = Fold.w2 (given c m ρ) j q := by
  rw [show W2 m ρ c (Proc.devRef .tc main_v30_0) = _ from W2_arr m ρ c 4, arr0_4]
  refine Finset.sum_congr rfl fun g _ => congrArg₂ (· * ·) ?_ (whead_at _ _ _)
  exact congrArg (fun f => rd S512x2048 f (ix2 j g)) (W1_of m ρ c main_arg6 (by decide))

/-- The folded bias after the first launch. -/
theorem foldBias_at (q : Fin 128) :
    rd S1x128 (W2 m ρ c (Proc.devRef .tc main_v30_1)) (ix2 0 q) = Fold.bhead (given c m ρ) q := by
  rw [show W2 m ρ c (Proc.devRef .tc main_v30_1) = _ from W2_arr m ρ c 5, arr0_5]
  refine congrArg₂ (· + ·) (Finset.sum_congr rfl fun g _ => congrArg₂ (· * ·) (bg_at _ _) (whead_at _ _ _)) (bias_at _ _)

end Cert.KerSide

end
-- ==== Proof.KerRows.lean ====
/- What the second launch's grid points load: a point has 4096 rows of the latent codes and of the data beside the mask;
   the other arrays it has whole. -/
module

public import proofs.«01_k».proof.Proof.KerFold

@[expose] public section

set_option maxRecDepth 16384

noncomputable section

namespace Cert.KerSide

open Cert.Spec (rd)
open Cert.KernelIdeal Cert.KernelIdeal.Gen Idealize.ShloMosaic Idealize.ShloMosaic.TcCoe Idealize.SL.Sem

/-- Point `t` has block `t` of the arrays of rows, and block 0 of the others. -/
theorem idx1 : ∀ t : Fin grid1.N, win1_0.index t = ![t.val, 0] ∧ win1_1.index t = ![t.val, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![t.val, 0]
    ∧ win1_11.index t = ![t.val, 0] ∧ win1_12.index t = ![t.val, 0] ∧ win1_13.index t = ![t.val, 0] := by decide +kernel

/-- Row `b` of point `t`'s rows. -/
def row (t : Fin cfg1.N) (b : Fin 4096) : Fin 16384 :=
  ⟨t.val * 4096 + b.val, by have := t.isLt; have h : cfg1.N = 4 := N_1; omega⟩

variable (m : (ℓ : Loc nD τ sig) → Buf (Elt Ideal) ℓ) (ρ : Dev nD → PrngReg) (c : Dev nD) (t : Fin cfg1.N)

/-- No launch or host operation before the second launch changes an argument. -/
theorem inputs_kept : inputs (W2 m ρ c) = given c m ρ := by
  simp only [inputs, W2_args m ρ c main_arg0 (by decide), W2_args m ρ c main_arg1 (by decide), W2_args m ρ c main_arg2 (by decide),
    W2_args m ρ c main_arg3 (by decide), W2_args m ρ c main_arg4 (by decide), W2_args m ρ c main_arg5 (by decide),
    W2_args m ρ c main_arg6 (by decide), W2_args m ρ c main_arg7 (by decide), W2_args m ρ c main_arg8 (by decide),
    W2_args m ρ c main_arg9 (by decide), W2_args m ρ c main_arg10 (by decide), W2_args m ρ c main_arg11 (by decide)]

/-! ## The blocks -/

theorem blk1_0 (b : Fin 4096) (k : Fin 256) :
    rd S4096x256 (iblk1 (V3 m ρ) c 0 t) (ix2 b k) = (given c m ρ).z (row t b) k := by
  refine Eq.trans (b := rd S16384x256 (V3 m ρ c main_arg0) (ix2 (row t b) k)) ?_ ?_
  · simp only [rd]
    blk_ext [iblk1, idx1 t, row]
  · exact congrArg (fun f => rd S16384x256 f (ix2 (row t b) k)) (W3_args m ρ c main_arg0 (by decide))

theorem blk1_1 (b : Fin 4096) (q : Fin 128) :
    rd S4096x128 (iblk1 (V3 m ρ) c 1 t) (ix2 b q) = rd S16384x128 (V3 m ρ c main_v35) (ix2 (row t b) q) := by
  simp only [rd]
  blk_ext [iblk1, idx1 t, row]

theorem blk1_1_data (b : Fin 4096) (v : Fin 32) :
    rd S4096x128 (iblk1 (V3 m ρ) c 1 t) (ix2 b ⟨v.val, by omega⟩) = (given c m ρ).x (row t b) v :=
  (blk1_1 m ρ c t b _).trans ((data_at _ _ _).trans (by rw [inputs_kept]))

theorem blk1_1_mask (b : Fin 4096) (v : Fin 32) :
    rd S4096x128 (iblk1 (V3 m ρ) c 1 t) (ix2 b ⟨32 + v.val, by omega⟩) = Spec.observed (given c m ρ) (row t b) v :=
  (blk1_1 m ρ c t b _).trans ((mask_at _ _ _).trans (by rw [inputs_kept]))

theorem blk1_2 (k : Fin 256) (j : Fin 512) :
    rd S256x512 (iblk1 (V3 m ρ) c 2 t) (ix2 k j) = (given c m ρ).Wh k j := by
  refine Eq.trans (b := rd S256x512 (V3 m ρ c main_arg4) (ix2 k j)) ?_ ?_
  · simp only [rd]
    blk_ext [iblk1, idx1 t]
  · exact congrArg (fun f => rd S256x512 f (ix2 k j)) (W3_args m ρ c main_arg4 (by decide))

theorem blk1_3 (j : Fin 512) :
    rd S1x512 (iblk1 (V3 m ρ) c 3 t) (ix2 0 j) = (given c m ρ).bh j := by
  refine Eq.trans (b := rd S1x512 (V3 m ρ c main_v46) (ix2 0 j)) ?_ ((bh_at _ _).trans (by rw [inputs_kept]))
  simp only [rd]
  blk_ext [iblk1, idx1 t]

theorem blk1_4 (j : Fin 512) (q : Fin 128) :
    rd S512x128 (iblk1 (V3 m ρ) c 4 t) (ix2 j q) = Fold.w2 (given c m ρ) j q := by
  refine Eq.trans (b := rd S512x128 (V3 m ρ c main_v30_0) (ix2 j q)) ?_ (Eq.trans ?_ (fold_at c m ρ j q))
  · simp only [rd]
    blk_ext [iblk1, idx1 t]
  · exact congrArg (fun f => rd S512x128 f (ix2 j q)) (W3_of m ρ c main_v30_0 (by decide))

theorem blk1_5 (q : Fin 128) :
    rd S1x128 (iblk1 (V3 m ρ) c 5 t) (ix2 0 q) = Fold.bhead (given c m ρ) q := by
  refine Eq.trans (b := rd S1x128 (V3 m ρ c main_v30_1) (ix2 0 q)) ?_ (Eq.trans ?_ (foldBias_at c m ρ q))
  · simp only [rd]
    blk_ext [iblk1, idx1 t]
  · exact congrArg (fun f => rd S1x128 f (ix2 0 q)) (W3_of m ρ c main_v30_1 (by decide))

theorem blk1_6 (v : Fin 32) :
    rd S1x32 (iblk1 (V3 m ρ) c 6 t) (ix2 0 v) = (given c m ρ).norm v 0 := by
  refine Eq.trans (b := rd S1x32 (V3 m ρ c main_v47) (ix2 0 v)) ?_ ((mean_at _ _).trans (by rw [inputs_kept]))
  simp only [rd]
  blk_ext [iblk1, idx1 t]

theorem blk1_7 (v : Fin 32) :
    rd S1x32 (iblk1 (V3 m ρ) c 7 t) (ix2 0 v) = (given c m ρ).norm v 1 := by
  refine Eq.trans (b := rd S1x32 (V3 m ρ c main_v48) (ix2 0 v)) ?_ ((var_at _ _).trans (by rw [inputs_kept]))
  simp only [rd]
  blk_ext [iblk1, idx1 t]

theorem blk1_8 (l : Fin 64) :
    rd S1x64 (iblk1 (V3 m ρ) c 8 t) (ix2 0 l) = (given c m ρ).norm ⟨l.val / 2, by omega⟩ 0 := by
  refine Eq.trans (b := rd S1x64 (V3 m ρ c main_v42) (ix2 0 l)) ?_ ((meanPair_at _ _).trans (by rw [inputs_kept]))
  simp only [rd]
  blk_ext [iblk1, idx1 t]

theorem blk1_9 (l : Fin 64) :
    rd S1x64 (iblk1 (V3 m ρ) c 9 t) (ix2 0 l) = (given c m ρ).norm ⟨l.val / 2, by omega⟩ 1 := by
  refine Eq.trans (b := rd S1x64 (V3 m ρ c main_v45) (ix2 0 l)) ?_ ((varPair_at _ _).trans (by rw [inputs_kept]))
  simp only [rd]
  blk_ext [iblk1, idx1 t]

/-! ## The heads -/

/-- Point `t`'s 128 columns: the folded heads at its rows. -/
theorem raw_blk (b : Fin 4096) (q : Fin 128) :
    rd S4096x128 (k1_pay2 (iblk1 (V3 m ρ) c 0 t) (iblk1 (V3 m ρ) c 2 t) (iblk1 (V3 m ρ) c 3 t) (iblk1 (V3 m ρ) c 4 t)
      (iblk1 (V3 m ρ) c 5 t)) (ix2 b q) = Fold.raw (given c m ρ) (row t b) q := by
  refine (raw_pay _ _ _ _ _ _ _).trans ?_
  unfold Fold.raw
  rw [blk1_5]
  refine congrArg (· + _) (Finset.sum_congr rfl fun j _ => ?_)
  rw [blk1_4, blk1_3]
  refine congrArg (· * _) (congrArg (max · _) (congrArg (· + _) (Finset.sum_congr rfl fun k _ => ?_)))
  rw [blk1_0, blk1_2]

end Cert.KerSide

end
-- ==== Proof.KerBody.lean ====
/- What the second launch leaves: the log densities, the estimated mean, and the two estimated parameters side by side. -/
module

public import proofs.«01_k».proof.Proof.KerRows

@[expose] public section

set_option maxRecDepth 16384

noncomputable section

namespace Cert.KerSide

open Cert.Spec (rd)
open Cert.KernelIdeal Cert.KernelIdeal.Gen Idealize.ShloMosaic Idealize.ShloMosaic.TcCoe Idealize.SL.Sem

/-! ## The heads in the columns -/

/-- Columns 0–31 hold the mean heads. -/
theorem raw_first {I : Spec.Inputs} (h : Fold.Finite I) (b : Fin 16384) (v : Fin 32) :
    Fold.raw I b ⟨v.val, by omega⟩ = Spec.meanRaw I b v := by
  have hv := v.isLt
  have hc : Fold.colVar ⟨v.val, by omega⟩ = v := by
    apply Fin.ext; simp [Fold.colVar, hv]
  rw [Fold.raw_mean h b _ (by simp [Fold.isMean, hv]), hc]

/-- Columns 32–63 hold the variance heads. -/
theorem raw_second {I : Spec.Inputs} (h : Fold.Finite I) (b : Fin 16384) (v : Fin 32) :
    Fold.raw I b ⟨32 + v.val, by omega⟩ = Spec.varRaw I b v := by
  have hv := v.isLt
  have h1 : ¬ 32 + v.val < 32 := by omega
  have h2 : 32 + v.val - 32 < 32 := by omega
  have hc : Fold.colVar ⟨32 + v.val, by omega⟩ = v := by
    apply Fin.ext; simp [Fold.colVar]
  rw [Fold.raw_var h b _ (by simp [Fold.isMean]), hc]

/-- Columns 64–127 hold, for each variable, its mean head (even column) and its variance head (odd column). -/
theorem raw_third {I : Spec.Inputs} (h : Fold.Finite I) (b : Fin 16384) (l : Fin 64) :
    Fold.raw I b ⟨64 + l.val, by omega⟩
      = if l.val % 2 < 1 then Spec.meanRaw I b ⟨l.val / 2, by omega⟩ else Spec.varRaw I b ⟨l.val / 2, by omega⟩ := by
  have h1 : ¬ 64 + l.val < 32 := by omega
  have h2 : ¬ 64 + l.val - 32 < 32 := by omega
  have h3 : 64 + l.val - 32 - 32 = l.val := by omega
  have hc : Fold.colVar ⟨64 + l.val, by omega⟩ = ⟨l.val / 2, by omega⟩ := by
    apply Fin.ext; simp only [Fold.colVar, h1, h2, h3, dif_neg, not_false_eq_true]
  have hm : Fold.isMean ⟨64 + l.val, by omega⟩ = decide (l.val % 2 < 1) := by
    simp only [Fold.isMean, h1, h2, h3, if_false]
  split
  case isTrue hl => rw [Fold.raw_mean h b _ (by rw [hm]; exact decide_eq_true hl), hc]
  case isFalse hl => rw [Fold.raw_var h b _ (by rw [hm]; exact decide_eq_false hl), hc]

variable (m : (ℓ : Loc nD τ sig) → Buf (Elt Ideal) ℓ) (ρ : Dev nD → PrngReg) (c : Dev nD) (t : Fin cfg1.N)
variable (h : Fold.Finite (given c m ρ))
include h

/-! ## One grid point -/

/-- The mean heads at point `t`. -/
theorem meanCol_blk (b : Fin 4096) (v : Fin 32) :
    rd S4096x32 (k1_pay4 (iblk1 (V3 m ρ) c 0 t) (iblk1 (V3 m ρ) c 2 t) (iblk1 (V3 m ρ) c 3 t) (iblk1 (V3 m ρ) c 4 t)
      (iblk1 (V3 m ρ) c 5 t)) (ix2 b v) = Spec.meanRaw (given c m ρ) (row t b) v :=
  (meanCol_pay _ _ _ _ _ _ _).trans ((raw_blk m ρ c t b _).trans (raw_first h _ _))

/-- The clipped softplus of the variance heads at point `t`. -/
theorem varCol_blk (b : Fin 4096) (v : Fin 32) :
    rd S4096x32 (k1_pay6 (iblk1 (V3 m ρ) c 0 t) (iblk1 (V3 m ρ) c 2 t) (iblk1 (V3 m ρ) c 3 t) (iblk1 (V3 m ρ) c 4 t)
      (iblk1 (V3 m ρ) c 5 t)) (ix2 b v) = Spec.clip (Spec.softplus (Spec.varRaw (given c m ρ) (row t b) v)) :=
  (varCol_pay _ _ _ _ _ _ _).trans (by rw [raw_blk m ρ c t b _, raw_second h])

/-- The estimated mean at point `t`. -/
theorem estMean_blk (b : Fin 4096) (v : Fin 32) :
    rd S4096x32 (k1_pay9 (k1_pay4 (iblk1 (V3 m ρ) c 0 t) (iblk1 (V3 m ρ) c 2 t) (iblk1 (V3 m ρ) c 3 t)
      (iblk1 (V3 m ρ) c 4 t) (iblk1 (V3 m ρ) c 5 t)) (iblk1 (V3 m ρ) c 6 t) (iblk1 (V3 m ρ) c 7 t)) (ix2 b v)
      = Spec.estMean (given c m ρ) (row t b) v :=
  (estMean_pay _ _ _ _ _).trans (by rw [meanCol_blk m ρ c t h, blk1_6, blk1_7]; rfl)

/-- The log density at point `t`. -/
theorem density_blk (b : Fin 4096) (v : Fin 32) :
    rd S4096x32 (k1_pay10 (iblk1 (V3 m ρ) c 1 t) (k1_pay4 (iblk1 (V3 m ρ) c 0 t) (iblk1 (V3 m ρ) c 2 t) (iblk1 (V3 m ρ) c 3 t)
      (iblk1 (V3 m ρ) c 4 t) (iblk1 (V3 m ρ) c 5 t)) (k1_pay6 (iblk1 (V3 m ρ) c 0 t) (iblk1 (V3 m ρ) c 2 t)
      (iblk1 (V3 m ρ) c 3 t) (iblk1 (V3 m ρ) c 4 t) (iblk1 (V3 m ρ) c 5 t)) (iblk1 (V3 m ρ) c 6 t) (iblk1 (V3 m ρ) c 7 t))
      (ix2 b v) = Spec.logDensity (given c m ρ) (row t b) v :=
  (density_pay _ _ _ _ _ _ _).trans (by
    rw [estMean_blk m ρ c t h, varCol_blk m ρ c t h, blk1_7, blk1_1_data]; rfl)

/-- The two parameters side by side at point `t`. -/
theorem pair_blk (b : Fin 4096) (l : Fin 64) :
    rd S4096x64 (k1_pay1 (k1_pay5 (iblk1 (V3 m ρ) c 0 t) (iblk1 (V3 m ρ) c 2 t) (iblk1 (V3 m ρ) c 3 t) (iblk1 (V3 m ρ) c 4 t)
      (iblk1 (V3 m ρ) c 5 t)) (k1_pay14 (iblk1 (V3 m ρ) c 9 t)) (k1_pay15 (k1_pay5 (iblk1 (V3 m ρ) c 0 t)
      (iblk1 (V3 m ρ) c 2 t) (iblk1 (V3 m ρ) c 3 t) (iblk1 (V3 m ρ) c 4 t) (iblk1 (V3 m ρ) c 5 t)) (iblk1 (V3 m ρ) c 9 t))
      (iblk1 (V3 m ρ) c 8 t)) (ix2 b l)
      = Spec.params (given c m ρ) (row t b) ⟨l.val / 2, by omega⟩ ⟨l.val % 2, by omega⟩ := by
  refine (pair_pay _ _ _ _ _).trans ?_
  rw [pairCol_pay, raw_blk m ρ c t b _, raw_third h, blk1_8, blk1_9]
  unfold Spec.params
  by_cases hl : l.val % 2 < 1
  · simp only [hl, if_true]; rfl
  · simp only [hl, if_false]; rfl

/-! ## The arrays -/

/-- The first result's array: the log density of the observed data. -/
theorem arr1_10 : (dat1 (V3 m ρ) c).arrAt 10 cfg1.N = fun i : S16384x32.Idx => Spec.logPx (given c m ρ) (i 0) (i 1) := by
  refine (dat1 (V3 m ρ) c).arrAt_eq_of_covers 10 _ (by decide +kernel) fun t hf y => ?_
  blk_simp
  rw [after1_10]
  unfold_out out1_10
  frame_out
  idx_vars y
  have e0 : ((View.whole main_v49_0).slice (win1_10.rect t)).emb (ix2 y0 y1) 0 = row t y0 := by
    apply Fin.ext; blk_simp [idx1 t, row]
  have e1 : ((View.whole main_v49_0).slice (win1_10.rect t)).emb (ix2 y0 y1) 1 = y1 := by
    apply Fin.ext; blk_simp [idx1 t]
  rw [e0, e1]
  rw [pay3_eq, pay7_eq]
  refine (observed_pay _ _ _ _ _ _ _).trans ?_
  rw [density_blk m ρ c t h, blk1_1_mask]
  rfl

/-- The second result's array: the log density of the missing data. -/
theorem arr1_11 : (dat1 (V3 m ρ) c).arrAt 11 cfg1.N = fun i : S16384x32.Idx => Spec.logPxMissing (given c m ρ) (i 0) (i 1) := by
  refine (dat1 (V3 m ρ) c).arrAt_eq_of_covers 11 _ (by decide +kernel) fun t hf y => ?_
  blk_simp
  rw [after1_11]
  unfold_out out1_11
  frame_out
  idx_vars y
  have e0 : ((View.whole main_v49_1).slice (win1_11.rect t)).emb (ix2 y0 y1) 0 = row t y0 := by
    apply Fin.ext; blk_simp [idx1 t, row]
  have e1 : ((View.whole main_v49_1).slice (win1_11.rect t)).emb (ix2 y0 y1) 1 = y1 := by
    apply Fin.ext; blk_simp [idx1 t]
  rw [e0, e1]
  rw [pay3_eq, pay7_eq]
  refine (missing_pay _ _ _ _ _ _ _).trans ?_
  rw [density_blk m ρ c t h, blk1_1_mask]
  rfl

/-- The third result's array: the estimated mean. -/
theorem arr1_12 : (dat1 (V3 m ρ) c).arrAt 12 cfg1.N = fun i : S16384x32.Idx => Spec.estMean (given c m ρ) (i 0) (i 1) := by
  refine (dat1 (V3 m ρ) c).arrAt_eq_of_covers 12 _ (by decide +kernel) fun t hf y => ?_
  blk_simp
  rw [after1_12]
  unfold_out out1_12
  frame_out
  idx_vars y
  have e0 : ((View.whole main_v49_2).slice (win1_12.rect t)).emb (ix2 y0 y1) 0 = row t y0 := by
    apply Fin.ext; blk_simp [idx1 t, row]
  have e1 : ((View.whole main_v49_2).slice (win1_12.rect t)).emb (ix2 y0 y1) 1 = y1 := by
    apply Fin.ext; blk_simp [idx1 t]
  rw [e0, e1]
  rw [pay7_eq]
  refine (estMean_blk m ρ c t h _ _).trans ?_
  rfl

/-- The fourth result's array before its last reshape: the two parameters side by side. -/
theorem arr1_13 : (dat1 (V3 m ρ) c).arrAt 13 cfg1.N = fun i : S16384x64.Idx =>
    Spec.params (given c m ρ) (i 0) ⟨(i 1).val / 2, by have := (i 1).isLt; change _ < 64 at this; omega⟩ ⟨(i 1).val % 2, by omega⟩ := by
  refine (dat1 (V3 m ρ) c).arrAt_eq_of_covers 13 _ (by decide +kernel) fun t hf y => ?_
  blk_simp
  rw [after1_13]
  unfold_out out1_13
  frame_out
  idx_vars y
  have e0 : ((View.whole main_v49_3).slice (win1_13.rect t)).emb (ix2 y0 y1) 0 = row t y0 := by
    apply Fin.ext; blk_simp [idx1 t, row]
  have e1 : ((View.whole main_v49_3).slice (win1_13.rect t)).emb (ix2 y0 y1) 1 = y1 := by
    apply Fin.ext; blk_simp [idx1 t]
  refine (pair_blk m ρ c t h _ _).trans ?_
  have z : win1_13.index t (1 : Fin 2) = 0 := by rw [(idx1 t).2.2.2.2.2.2.2.2.2.2.2.2.2]; rfl
  simp only [e0]
  congr 1 <;> apply Fin.ext <;> simp only [z, Nat.zero_mul, Nat.zero_add]

/-! ## The results at the end -/

/-- The first result. -/
theorem logPx_end (b : Fin 16384) (v : Fin 32) :
    rd S16384x32 (W5 m ρ c (Proc.devRef .tc main_v49_0)) (ix2 b v) = Spec.logPx (given c m ρ) b v := by
  rw [W5_of m ρ c main_v49_0 (by decide), show W4 m ρ c (Proc.devRef .tc main_v49_0) = _ from W4_arr m ρ c 10, arr1_10 m ρ c h]
  rfl

/-- The second result. -/
theorem logPxMissing_end (b : Fin 16384) (v : Fin 32) :
    rd S16384x32 (W5 m ρ c (Proc.devRef .tc main_v49_1)) (ix2 b v) = Spec.logPxMissing (given c m ρ) b v := by
  rw [W5_of m ρ c main_v49_1 (by decide), show W4 m ρ c (Proc.devRef .tc main_v49_1) = _ from W4_arr m ρ c 11, arr1_11 m ρ c h]
  rfl

/-- The third result. -/
theorem estMean_end (b : Fin 16384) (v : Fin 32) :
    rd S16384x32 (W5 m ρ c (Proc.devRef .tc main_v49_2)) (ix2 b v) = Spec.estMean (given c m ρ) b v := by
  rw [W5_of m ρ c main_v49_2 (by decide), show W4 m ρ c (Proc.devRef .tc main_v49_2) = _ from W4_arr m ρ c 12, arr1_12 m ρ c h]
  rfl

/-- The fourth result. -/
theorem params_end (b : Fin 16384) (v : Fin 32) (e : Fin 2) :
    rd S16384x32x2 (W5 m ρ c (Proc.devRef .tc main_v50)) (ix3 b v e) = Spec.params (given c m ρ) b v e := by
  refine (pairs_at _ _ _ _).trans ?_
  rw [show W4 m ρ c (Proc.devRef .tc main_v49_3) = _ from W4_arr m ρ c 13, arr1_13 m ρ c h]
  show Spec.params _ b ⟨(v.val * 2 + e.val) / 2, _⟩ ⟨(v.val * 2 + e.val) % 2, _⟩ = _
  congr 1 <;> apply Fin.ext <;> dsimp only <;> omega

end Cert.KerSide

end
-- ==== Proof.Agree.lean ====
/- The two programs agree: from memories that agree on the arguments, each of the four results of the kernel program is
   the reference program's. -/
module

public import proofs.«01_k».proof.Proof.RefVal
public import proofs.«01_k».proof.Proof.KerBody

@[expose] public section

set_option maxRecDepth 16384

noncomputable section

namespace Cert.Agree

open Cert.Spec (rd)
open Idealize.ShloMosaic Idealize.ShloMosaic.TcCoe Idealize.SL.Sem

variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two memories hold the same twelve arguments on device `c`. -/
def Same : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m' c}

/-- Then the reference has the kernel program's inputs. -/
theorem inputs_eq (hs : Same m m' c) : RefSide.given m' c = KerSide.given c m g := by
  obtain ⟨h0, h1, h2, h3, h4, h5, h6, h7, h8, h9, h10, h11⟩ := hs
  unfold RefSide.given RefSide.inputs KerSide.given KerSide.inputs
  congr 1
  · exact congrArg (fun f b k => rd Cert.KernelIdeal.S16384x256 f (ix2 b k)) h0
  · exact congrArg (fun f b k => rd Cert.KernelIdeal.S16384x32 f (ix2 b k)) h1
  · exact congrArg (fun (f : IVec Cert.KernelIdeal.S16384x32 32) b k => f (ix2 b k)) h2
  · exact congrArg (fun f b k => rd Cert.KernelIdeal.S32x2 f (ix2 b k)) h3
  · exact congrArg (fun f b k => rd Cert.KernelIdeal.S256x512 f (ix2 b k)) h4
  · exact congrArg (fun f b => rd Cert.KernelIdeal.S512 f (ix1 b)) h5
  · exact congrArg (fun f b k => rd Cert.KernelIdeal.S512x2048 f (ix2 b k)) h6
  · exact congrArg (fun f b => rd Cert.KernelIdeal.S2048 f (ix1 b)) h7
  · exact congrArg (fun f b k => rd Cert.KernelIdeal.S32x64 f (ix2 b k)) h8
  · exact congrArg (fun f b => rd Cert.KernelIdeal.S32 f (ix1 b)) h9
  · exact congrArg (fun f b k => rd Cert.KernelIdeal.S32x64 f (ix2 b k)) h10
  · exact congrArg (fun f b => rd Cert.KernelIdeal.S32 f (ix1 b)) h11

variable (hs : Same m m' c) (hf : Fold.Finite (KerSide.given c m g))
include hs hf

/-- The log density of the observed data. -/
theorem logPx_eq : (RefSide.afterOut m' c (Proc.devRef .tc Cert.ReferenceIdeal.main_v56) : FVec Ideal Cert.KernelIdeal.S16384x32 .f32)
    = Cert.KernelIdeal.Gen.W5 m g c (Proc.devRef .tc Cert.KernelIdeal.main_v49_0) := by
  funext i
  idx_vars i
  refine (RefSide.logPx_val m' c _ _).trans (Eq.trans ?_ (KerSide.logPx_end m g c hf _ _).symm)
  rw [inputs_eq g hs]

/-- The log density of the missing data. -/
theorem logPxMissing_eq : (RefSide.afterOut m' c (Proc.devRef .tc Cert.ReferenceIdeal.main_v59) : FVec Ideal Cert.KernelIdeal.S16384x32 .f32)
    = Cert.KernelIdeal.Gen.W5 m g c (Proc.devRef .tc Cert.KernelIdeal.main_v49_1) := by
  funext i
  idx_vars i
  refine (RefSide.logPxMissing_val m' c _ _).trans (Eq.trans ?_ (KerSide.logPxMissing_end m g c hf _ _).symm)
  rw [inputs_eq g hs]

/-- The estimated mean. -/
theorem estMean_eq : (RefSide.afterOut m' c (Proc.devRef .tc Cert.ReferenceIdeal.main_v37) : FVec Ideal Cert.KernelIdeal.S16384x32 .f32)
    = Cert.KernelIdeal.Gen.W5 m g c (Proc.devRef .tc Cert.KernelIdeal.main_v49_2) := by
  funext i
  idx_vars i
  refine (RefSide.mean_result_val m' c _ _).trans (Eq.trans ?_ (KerSide.estMean_end m g c hf _ _).symm)
  rw [inputs_eq g hs]

/-- The pairs of estimated parameters. -/
theorem params_eq : (RefSide.afterOut m' c (Proc.devRef .tc Cert.ReferenceIdeal.main_v62) : FVec Ideal Cert.KernelIdeal.S16384x32x2 .f32)
    = Cert.KernelIdeal.Gen.W5 m g c (Proc.devRef .tc Cert.KernelIdeal.main_v50) := by
  funext i
  idx_vars i
  refine (RefSide.params_val m' c _ _ _).trans (Eq.trans ?_ (KerSide.params_end m g c hf _ _ _).symm)
  rw [inputs_eq g hs]

end Cert.Agree

end
-- ==== Proof.lean ====
/- The certificate: both kernel programs and the reference run and leave their arguments alone; the ideal kernel differs
   from the printed one in one named constant; and, on finite latent codes and weights, kernel and reference compute the
   same four results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.KerRun
public import proofs.«01_k».proof.Proof.Pre
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs; its twelve arguments end as launched, and every semaphore counter at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0) :=
  (θ_run _ _ _).mono (fun r h => ⟨fun c => ⟨(h.1 c _).trans (RefSide.arg_val m c (by decide)), (h.1 c _).trans (RefSide.arg_val m c (by decide)), (h.1 c _).trans (RefSide.arg_val m c (by decide)), (h.1 c _).trans (RefSide.arg_val m c (by decide)), (h.1 c _).trans (RefSide.arg_val m c (by decide)), (h.1 c _).trans (RefSide.arg_val m c (by decide)), (h.1 c _).trans (RefSide.arg_val m c (by decide)), (h.1 c _).trans (RefSide.arg_val m c (by decide)), (h.1 c _).trans (RefSide.arg_val m c (by decide)), (h.1 c _).trans (RefSide.arg_val m c (by decide)), (h.1 c _).trans (RefSide.arg_val m c (by decide)), (h.1 c _).trans (RefSide.arg_val m c (by decide))⟩, h.2⟩) (RefSide.run_all m g)

/-- Kernel and reference compute the same four results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hP hA
  have hf := KerSide.finite_of_pre m g hP
  refine ⟨fun c => Cert.KernelIdeal.Gen.W5 m g c (Proc.devRef .tc Cert.KernelIdeal.main_v49_0),
    fun c => Cert.KernelIdeal.Gen.W5 m g c (Proc.devRef .tc Cert.KernelIdeal.main_v49_1),
    fun c => Cert.KernelIdeal.Gen.W5 m g c (Proc.devRef .tc Cert.KernelIdeal.main_v49_2),
    fun c => Cert.KernelIdeal.Gen.W5 m g c (Proc.devRef .tc Cert.KernelIdeal.main_v50),
    (θ_run _ _ _).mono (fun r h c => ?_) (KerSide.run_all m g), (θ_run _ _ _).mono (fun r h c => ?_) (RefSide.run_all m' g')⟩
  · exact ⟨h.1 c _ (by decide), h.1 c _ (by decide), h.1 c _ (by decide), h.1 c _ (by decide),
      (h.1 c _ (by decide)).trans (Cert.KernelIdeal.Gen.W5_main_arg0 m g c),
      (h.1 c _ (by decide)).trans (Cert.KernelIdeal.Gen.W5_main_arg1 m g c),
      (h.1 c _ (by decide)).trans (Cert.KernelIdeal.Gen.W5_main_arg2 m g c),
      (h.1 c _ (by decide)).trans (Cert.KernelIdeal.Gen.W5_main_arg3 m g c),
      (h.1 c _ (by decide)).trans (Cert.KernelIdeal.Gen.W5_main_arg4 m g c),
      (h.1 c _ (by decide)).trans (Cert.KernelIdeal.Gen.W5_main_arg5 m g c),
      (h.1 c _ (by decide)).trans (Cert.KernelIdeal.Gen.W5_main_arg6 m g c),
      (h.1 c _ (by decide)).trans (Cert.KernelIdeal.Gen.W5_main_arg7 m g c),
      (h.1 c _ (by decide)).trans (Cert.KernelIdeal.Gen.W5_main_arg8 m g c),
      (h.1 c _ (by decide)).trans (Cert.KernelIdeal.Gen.W5_main_arg9 m g c),
      (h.1 c _ (by decide)).trans (Cert.KernelIdeal.Gen.W5_main_arg10 m g c),
      (h.1 c _ (by decide)).trans (Cert.KernelIdeal.Gen.W5_main_arg11 m g c)⟩
  · exact ⟨(h.1 c _).trans (Agree.logPx_eq g (hA c) (hf c)), (h.1 c _).trans (Agree.logPxMissing_eq g (hA c) (hf c)),
      (h.1 c _).trans (Agree.estMean_eq g (hA c) (hf c)), (h.1 c _).trans (Agree.params_eq g (hA c) (hf c)),
      (h.1 c _).trans (RefSide.arg_val m' c (by decide)),
      (h.1 c _).trans (RefSide.arg_val m' c (by decide)),
      (h.1 c _).trans (RefSide.arg_val m' c (by decide)),
      (h.1 c _).trans (RefSide.arg_val m' c (by decide)),
      (h.1 c _).trans (RefSide.arg_val m' c (by decide)),
      (h.1 c _).trans (RefSide.arg_val m' c (by decide)),
      (h.1 c _).trans (RefSide.arg_val m' c (by decide)),
      (h.1 c _).trans (RefSide.arg_val m' c (by decide)),
      (h.1 c _).trans (RefSide.arg_val m' c (by decide)),
      (h.1 c _).trans (RefSide.arg_val m' c (by decide)),
      (h.1 c _).trans (RefSide.arg_val m' c (by decide)),
      (h.1 c _).trans (RefSide.arg_val m' c (by decide))⟩

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => ref_frame m ρ,
  fun m ρ _ => ref_frame m ρ,
  IdealRules.named_const.statement Cert.KernelIdeal.κ "half_log_2pi" .f32 0x3F6B3F8E#32
    (((1 / 2) * (Real.log (13176795 / 2097152)) : ℝ) : EReal) rfl,
  algebraic⟩

end Cert.Proof

end
